-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S16384 : Shape := ⟨1, ![16384]⟩
abbrev S1000 : Shape := ⟨1, ![1000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000 .f32) (main_arg2 : FVec F S1000 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000 : Shape := ⟨1, ![1000]⟩
abbrev S1024 : Shape := ⟨1, ![1024]⟩
abbrev S_ : Shape := ⟨0, ![]⟩
abbrev S512 : Shape := ⟨1, ![512]⟩
abbrev S16 : Shape := ⟨1, ![16]⟩

abbrev nBuf : Table → Nat
  | .hbm => 5
  | .local .scVector .vmem => 5
  | _ => 0

abbrev bufTy : (tb : Table) → Fin (nBuf tb) → BufTy
  | .hbm, ⟨0, _⟩ => ⟨S16384, .i32⟩
  | .hbm, ⟨1, _⟩ => ⟨S1000, .f32⟩
  | .hbm, ⟨2, _⟩ => ⟨S1000, .f32⟩
  | .hbm, ⟨3, _⟩ => ⟨S16384, .f32⟩
  | .hbm, ⟨4, _⟩ => ⟨S16384, .f32⟩
  | .local .scVector .vmem, ⟨0, _⟩ => ⟨S1024, .i32⟩
  | .local .scVector .vmem, ⟨1, _⟩ => ⟨S1000, .f32⟩
  | .local .scVector .vmem, ⟨2, _⟩ => ⟨S1000, .f32⟩
  | .local .scVector .vmem, ⟨3, _⟩ => ⟨S1024, .f32⟩
  | .local .scVector .vmem, ⟨4, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1024_i32 : BitVec 32 := 1024#32
  let v0 : BitVec 32 := Scalar.muli arg1 c1024_i32
  ![v0.toNat]
def k0_off2 (i : grid0.Coords) : Fin 1 → Nat :=
  let arg1 : BitVec 32 := BitVec.ofNat 32 (i 1).val
  let c1024_i32 : BitVec 32 := 1024#32
  let v0 : BitVec 32 := Scalar.muli arg1 c1024_i32
  let c512_i32 : BitVec 32 := 512#32
  let v1 : BitVec 32 := Scalar.addi v0 c512_i32
  ![v1.toNat]

def k0_chk1 (v14 : IVec S16 32) : Prop :=
  (∀ a x, ((![v14] : Fin 1 → IVec S16 32) a x).toNat < S1000.size a) ∧
  (∀ a x, ((![v14] : Fin 1 → IVec S16 32) a x).toNat < S1000.size a)
theorem k0_idx1_inb : ∀ (v14 : IVec S16 32) (k0_hw1 : k0_chk1 v14), ∀ a x, ((![v14] : Fin 1 → IVec S16 32) a x).toNat < S1000.size a := fun v14 k0_hw1 => k0_hw1.1
theorem k0_idx2_inb : ∀ (v14 : IVec S16 32) (k0_hw1 : k0_chk1 v14), ∀ a x, ((![v14] : Fin 1 → IVec S16 32) a x).toNat < S1000.size a := fun v14 k0_hw1 => k0_hw1.2

def k0_chk2 (v19 : IVec S16 32) : Prop :=
  (∀ a x, ((![v19] : Fin 1 → IVec S16 32) a x).toNat < S1000.size a) ∧
  (∀ a x, ((![v19] : Fin 1 → IVec S16 32) a x).toNat < S1000.size a)
theorem k0_idx3_inb : ∀ (v19 : IVec S16 32) (k0_hw2 : k0_chk2 v19), ∀ a x, ((![v19] : Fin 1 → IVec S16 32) a x).toNat < S1000.size a := fun v19 k0_hw2 => k0_hw2.1
theorem k0_idx4_inb : ∀ (v19 : IVec S16 32) (k0_hw2 : k0_chk2 v19), ∀ a x, ((![v19] : Fin 1 → IVec S16 32) a x).toNat < S1000.size a := fun v19 k0_hw2 => k0_hw2.2

def k0_chk3 (v24 : IVec S16 32) : Prop :=
  (∀ a x, ((![v24] : Fin 1 → IVec S16 32) a x).toNat < S1000.size a) ∧
  (∀ a x, ((![v24] : Fin 1 → IVec S16 32) a x).toNat < S1000.size a)
theorem k0_idx5_inb : ∀ (v24 : IVec S16 32) (k0_hw3 : k0_chk3 v24), ∀ a x, ((![v24] : Fin 1 → IVec S16 32) a x).toNat < S1000.size a := fun v24 k0_hw3 => k0_hw3.1
theorem k0_idx6_inb : ∀ (v24 : IVec S16 32) (k0_hw3 : k0_chk3 v24), ∀ a x, ((![v24] : Fin 1 → IVec S16 32) a x).toNat < S1000.size a := fun v24 k0_hw3 => k0_hw3.2

def k0_chk4 (v29 : IVec S16 32) : Prop :=
  (∀ a x, ((![v29] : Fin 1 → IVec S16 32) a x).toNat < S1000.size a) ∧
  (∀ a x, ((![v29] : Fin 1 → IVec S16 32) a x).toNat < S1000.size a)
theorem k0_idx7_inb : ∀ (v29 : IVec S16 32) (k0_hw4 : k0_chk4 v29), ∀ a x, ((![v29] : Fin 1 → IVec S16 32) a x).toNat < S1000.size a := fun v29 k0_hw4 => k0_hw4.1
theorem k0_idx8_inb : ∀ (v29 : IVec S16 32) (k0_hw4 : k0_chk4 v29), ∀ a x, ((![v29] : Fin 1 → IVec S16 32) a x).toNat < S1000.size a := fun v29 k0_hw4 => k0_hw4.2

def k0_chk5 (v34 : IVec S16 32) : Prop :=
  (∀ a x, ((![v34] : Fin 1 → IVec S16 32) a x).toNat < S1000.size a) ∧
  (∀ a x, ((![v34] : Fin 1 → IVec S16 32) a x).toNat < S1000.size a)
theorem k0_idx9_inb : ∀ (v34 : IVec S16 32) (k0_hw5 : k0_chk5 v34), ∀ a x, ((![v34] : Fin 1 → IVec S16 32) a x).toNat < S1000.size a := fun v34 k0_hw5 => k0_hw5.1
theorem k0_idx10_inb : ∀ (v34 : IVec S16 32) (k0_hw5 : k0_chk5 v34), ∀ a x, ((![v34] : Fin 1 → IVec S16 32) a x).toNat < S1000.size a := fun v34 k0_hw5 => k0_hw5.2

def k0_chk6 (v39 : IVec S16 32) : Prop :=
  (∀ a x, ((![v39] : Fin 1 → IVec S16 32) a x).toNat < S1000.size a) ∧
  (∀ a x, ((![v39] : Fin 1 → IVec S16 32) a x).toNat < S1000.size a)
theorem k0_idx11_inb : ∀ (v39 : IVec S16 32) (k0_hw6 : k0_chk6 v39), ∀ a x, ((![v39] : Fin 1 → IVec S16 32) a x).toNat < S1000.size a := fun v39 k0_hw6 => k0_hw6.1
theorem k0_idx12_inb : ∀ (v39 : IVec S16 32) (k0_hw6 : k0_chk6 v39), ∀ a x, ((![v39] : Fin 1 → IVec S16 32) a x).toNat < S1000.size a := fun v39 k0_hw6 => k0_hw6.2

def k0_chk7 (v44 : IVec S16 32) : Prop :=
  (∀ a x, ((![v44] : Fin 1 → IVec S16 32) a x).toNat < S1000.size a) ∧
  (∀ a x, ((![v44] : Fin 1 → IVec S16 32) a x).toNat < S1000.size a)
theorem k0_idx13_inb : ∀ (v44 : IVec S16 32) (k0_hw7 : k0_chk7 v44), ∀ a x, ((![v44] : Fin 1 → IVec S16 32) a x).toNat < S1000.size a := fun v44 k0_hw7 => k0_hw7.1
theorem k0_idx14_inb : ∀ (v44 : IVec S16 32) (k0_hw7 : k0_chk7 v44), ∀ a x, ((![v44] : Fin 1 → IVec S16 32) a x).toNat < S1000.size a := fun v44 k0_hw7 => k0_hw7.2

def k0_chk8 (v49 : IVec S16 32) : Prop :=
  (∀ a x, ((![v49] : Fin 1 → IVec S16 32) a x).toNat < S1000.size a) ∧
  (∀ a x, ((![v49] : Fin 1 → IVec S16 32) a x).toNat < S1000.size a)
theorem k0_idx15_inb : ∀ (v49 : IVec S16 32) (k0_hw8 : k0_chk8 v49), ∀ a x, ((![v49] : Fin 1 → IVec S16 32) a x).toNat < S1000.size a := fun v49 k0_hw8 => k0_hw8.1
theorem k0_idx16_inb : ∀ (v49 : IVec S16 32) (k0_hw8 : k0_chk8 v49), ∀ a x, ((![v49] : Fin 1 → IVec S16 32) a x).toNat < S1000.size a := fun v49 k0_hw8 => k0_hw8.2

def k0_chk9 (v54 : IVec S16 32) : Prop :=
  (∀ a x, ((![v54] : Fin 1 → IVec S16 32) a x).toNat < S1000.size a) ∧
  (∀ a x, ((![v54] : Fin 1 → IVec S16 32) a x).toNat < S1000.size a)
theorem k0_idx17_inb : ∀ (v54 : IVec S16 32) (k0_hw9 : k0_chk9 v54), ∀ a x, ((![v54] : Fin 1 → IVec S16 32) a x).toNat < S1000.size a := fun v54 k0_hw9 => k0_hw9.1
theorem k0_idx18_inb : ∀ (v54 : IVec S16 32) (k0_hw9 : k0_chk9 v54), ∀ a x, ((![v54] : Fin 1 → IVec S16 32) a x).toNat < S1000.size a := fun v54 k0_hw9 => k0_hw9.2

def k0_chk10 (v59 : IVec S16 32) : Prop :=
  (∀ a x, ((![v59] : Fin 1 → IVec S16 32) a x).toNat < S1000.size a) ∧
  (∀ a x, ((![v59] : Fin 1 → IVec S16 32) a x).toNat < S1000.size a)
theorem k0_idx19_inb : ∀ (v59 : IVec S16 32) (k0_hw10 : k0_chk10 v59), ∀ a x, ((![v59] : Fin 1 → IVec S16 32) a x).toNat < S1000.size a := fun v59 k0_hw10 => k0_hw10.1
theorem k0_idx20_inb : ∀ (v59 : IVec S16 32) (k0_hw10 : k0_chk10 v59), ∀ a x, ((![v59] : Fin 1 → IVec S16 32) a x).toNat < S1000.size a := fun v59 k0_hw10 => k0_hw10.2

def k0_chk11 (v64 : IVec S16 32) : Prop :=
  (∀ a x, ((![v64] : Fin 1 → IVec S16 32) a x).toNat < S1000.size a) ∧
  (∀ a x, ((![v64] : Fin 1 → IVec S16 32) a x).toNat < S1000.size a)
theorem k0_idx21_inb : ∀ (v64 : IVec S16 32) (k0_hw11 : k0_chk11 v64), ∀ a x, ((![v64] : Fin 1 → IVec S16 32) a x).toNat < S1000.size a := fun v64 k0_hw11 => k0_hw11.1
theorem k0_idx22_inb : ∀ (v64 : IVec S16 32) (k0_hw11 : k0_chk11 v64), ∀ a x, ((![v64] : Fin 1 → IVec S16 32) a x).toNat < S1000.size a := fun v64 k0_hw11 => k0_hw11.2

def k0_chk12 (v69 : IVec S16 32) : Prop :=
  (∀ a x, ((![v69] : Fin 1 → IVec S16 32) a x).toNat < S1000.size a) ∧
  (∀ a x, ((![v69] : Fin 1 → IVec S16 32) a x).toNat < S1000.size a)
theorem k0_idx23_inb : ∀ (v69 : IVec S16 32) (k0_hw12 : k0_chk12 v69), ∀ a x, ((![v69] : Fin 1 → IVec S16 32) a x).toNat < S1000.size a := fun v69 k0_hw12 => k0_hw12.1
theorem k0_idx24_inb : ∀ (v69 : IVec S16 32) (k0_hw12 : k0_chk12 v69), ∀ a x, ((![v69] : Fin 1 → IVec S16 32) a x).toNat < S1000.size a := fun v69 k0_hw12 => k0_hw12.2

def k0_chk13 (v74 : IVec S16 32) : Prop :=
  (∀ a x, ((![v74] : Fin 1 → IVec S16 32) a x).toNat < S1000.size a) ∧
  (∀ a x, ((![v74] : Fin 1 → IVec S16 32) a x).toNat < S1000.size a)
theorem k0_idx25_inb : ∀ (v74 : IVec S16 32) (k0_hw13 : k0_chk13 v74), ∀ a x, ((![v74] : Fin 1 → IVec S16 32) a x).toNat < S1000.size a := fun v74 k0_hw13 => k0_hw13.1
theorem k0_idx26_inb : ∀ (v74 : IVec S16 32) (k0_hw13 : k0_chk13 v74), ∀ a x, ((![v74] : Fin 1 → IVec S16 32) a x).toNat < S1000.size a := fun v74 k0_hw13 => k0_hw13.2

def k0_chk14 (v79 : IVec S16 32) : Prop :=
  (∀ a x, ((![v79] : Fin 1 → IVec S16 32) a x).toNat < S1000.size a) ∧
  (∀ a x, ((![v79] : Fin 1 → IVec S16 32) a x).toNat < S1000.size a)
theorem k0_idx27_inb : ∀ (v79 : IVec S16 32) (k0_hw14 : k0_chk14 v79), ∀ a x, ((![v79] : Fin 1 → IVec S16 32) a x).toNat < S1000.size a := fun v79 k0_hw14 => k0_hw14.1
theorem k0_idx28_inb : ∀ (v79 : IVec S16 32) (k0_hw14 : k0_chk14 v79), ∀ a x, ((![v79] : Fin 1 → IVec S16 32) a x).toNat < S1000.size a := fun v79 k0_hw14 => k0_hw14.2

def k0_chk15 (v84 : IVec S16 32) : Prop :=
  (∀ a x, ((![v84] : Fin 1 → IVec S16 32) a x).toNat < S1000.size a) ∧
  (∀ a x, ((![v84] : Fin 1 → IVec S16 32) a x).toNat < S1000.size a)
theorem k0_idx29_inb : ∀ (v84 : IVec S16 32) (k0_hw15 : k0_chk15 v84), ∀ a x, ((![v84] : Fin 1 → IVec S16 32) a x).toNat < S1000.size a := fun v84 k0_hw15 => k0_hw15.1
theorem k0_idx30_inb : ∀ (v84 : IVec S16 32) (k0_hw15 : k0_chk15 v84), ∀ a x, ((![v84] : Fin 1 → IVec S16 32) a x).toNat < S1000.size a := fun v84 k0_hw15 => k0_hw15.2

def k0_chk16 (v89 : IVec S16 32) : Prop :=
  (∀ a x, ((![v89] : Fin 1 → IVec S16 32) a x).toNat < S1000.size a) ∧
  (∀ a x, ((![v89] : Fin 1 → IVec S16 32) a x).toNat < S1000.size a)
theorem k0_idx31_inb : ∀ (v89 : IVec S16 32) (k0_hw16 : k0_chk16 v89), ∀ a x, ((![v89] : Fin 1 → IVec S16 32) a x).toNat < S1000.size a := fun v89 k0_hw16 => k0_hw16.1
theorem k0_idx32_inb : ∀ (v89 : IVec S16 32) (k0_hw16 : k0_chk16 v89), ∀ a x, ((![v89] : Fin 1 → IVec S16 32) a x).toNat < S1000.size a := fun v89 k0_hw16 => k0_hw16.2

def k0_chk17 (v94 : IVec S16 32) : Prop :=
  (∀ a x, ((![v94] : Fin 1 → IVec S16 32) a x).toNat < S1000.size a) ∧
  (∀ a x, ((![v94] : Fin 1 → IVec S16 32) a x).toNat < S1000.size a)
theorem k0_idx33_inb : ∀ (v94 : IVec S16 32) (k0_hw17 : k0_chk17 v94), ∀ a x, ((![v94] : Fin 1 → IVec S16 32) a x).toNat < S1000.size a := fun v94 k0_hw17 => k0_hw17.1
theorem k0_idx34_inb : ∀ (v94 : IVec S16 32) (k0_hw17 : k0_chk17 v94), ∀ a x, ((![v94] : Fin 1 → IVec S16 32) a x).toNat < S1000.size a := fun v94 k0_hw17 => k0_hw17.2

def k0_chk18 (v99 : IVec S16 32) : Prop :=
  (∀ a x, ((![v99] : Fin 1 → IVec S16 32) a x).toNat < S1000.size a) ∧
  (∀ a x, ((![v99] : Fin 1 → IVec S16 32) a x).toNat < S1000.size a)
theorem k0_idx35_inb : ∀ (v99 : IVec S16 32) (k0_hw18 : k0_chk18 v99), ∀ a x, ((![v99] : Fin 1 → IVec S16 32) a x).toNat < S1000.size a := fun v99 k0_hw18 => k0_hw18.1
theorem k0_idx36_inb : ∀ (v99 : IVec S16 32) (k0_hw18 : k0_chk18 v99), ∀ a x, ((![v99] : Fin 1 → IVec S16 32) a x).toNat < S1000.size a := fun v99 k0_hw18 => k0_hw18.2

def k0_chk19 (v104 : IVec S16 32) : Prop :=
  (∀ a x, ((![v104] : Fin 1 → IVec S16 32) a x).toNat < S1000.size a) ∧
  (∀ a x, ((![v104] : Fin 1 → IVec S16 32) a x).toNat < S1000.size a)
theorem k0_idx37_inb : ∀ (v104 : IVec S16 32) (k0_hw19 : k0_chk19 v104), ∀ a x, ((![v104] : Fin 1 → IVec S16 32) a x).toNat < S1000.size a := fun v104 k0_hw19 => k0_hw19.1
theorem k0_idx38_inb : ∀ (v104 : IVec S16 32) (k0_hw19 : k0_chk19 v104), ∀ a x, ((![v104] : Fin 1 → IVec S16 32) a x).toNat < S1000.size a := fun v104 k0_hw19 => k0_hw19.2

def k0_chk20 (v109 : IVec S16 32) : Prop :=
  (∀ a x, ((![v109] : Fin 1 → IVec S16 32) a x).toNat < S1000.size a) ∧
  (∀ a x, ((![v109] : Fin 1 → IVec S16 32) a x).toNat < S1000.size a)
theorem k0_idx39_inb : ∀ (v109 : IVec S16 32) (k0_hw20 : k0_chk20 v109), ∀ a x, ((![v109] : Fin 1 → IVec S16 32) a x).toNat < S1000.size a := fun v109 k0_hw20 => k0_hw20.1
theorem k0_idx40_inb : ∀ (v109 : IVec S16 32) (k0_hw20 : k0_chk20 v109), ∀ a x, ((![v109] : Fin 1 → IVec S16 32) a x).toNat < S1000.size a := fun v109 k0_hw20 => k0_hw20.2

def k0_chk21 (v114 : IVec S16 32) : Prop :=
  (∀ a x, ((![v114] : Fin 1 → IVec S16 32) a x).toNat < S1000.size a) ∧
  (∀ a x, ((![v114] : Fin 1 → IVec S16 32) a x).toNat < S1000.size a)
theorem k0_idx41_inb : ∀ (v114 : IVec S16 32) (k0_hw21 : k0_chk21 v114), ∀ a x, ((![v114] : Fin 1 → IVec S16 32) a x).toNat < S1000.size a := fun v114 k0_hw21 => k0_hw21.1
theorem k0_idx42_inb : ∀ (v114 : IVec S16 32) (k0_hw21 : k0_chk21 v114), ∀ a x, ((![v114] : Fin 1 → IVec S16 32) a x).toNat < S1000.size a := fun v114 k0_hw21 => k0_hw21.2

def k0_chk22 (v119 : IVec S16 32) : Prop :=
  (∀ a x, ((![v119] : Fin 1 → IVec S16 32) a x).toNat < S1000.size a) ∧
  (∀ a x, ((![v119] : Fin 1 → IVec S16 32) a x).toNat < S1000.size a)
theorem k0_idx43_inb : ∀ (v119 : IVec S16 32) (k0_hw22 : k0_chk22 v119), ∀ a x, ((![v119] : Fin 1 → IVec S16 32) a x).toNat < S1000.size a := fun v119 k0_hw22 => k0_hw22.1
theorem k0_idx44_inb : ∀ (v119 : IVec S16 32) (k0_hw22 : k0_chk22 v119), ∀ a x, ((![v119] : Fin 1 → IVec S16 32) a x).toNat < S1000.size a := fun v119 k0_hw22 => k0_hw22.2

def k0_chk23 (v124 : IVec S16 32) : Prop :=
  (∀ a x, ((![v124] : Fin 1 → IVec S16 32) a x).toNat < S1000.size a) ∧
  (∀ a x, ((![v124] : Fin 1 → IVec S16 32) a x).toNat < S1000.size a)
theorem k0_idx45_inb : ∀ (v124 : IVec S16 32) (k0_hw23 : k0_chk23 v124), ∀ a x, ((![v124] : Fin 1 → IVec S16 32) a x).toNat < S1000.size a := fun v124 k0_hw23 => k0_hw23.1
theorem k0_idx46_inb : ∀ (v124 : IVec S16 32) (k0_hw23 : k0_chk23 v124), ∀ a x, ((![v124] : Fin 1 → IVec S16 32) a x).toNat < S1000.size a := fun v124 k0_hw23 => k0_hw23.2

def k0_chk24 (v129 : IVec S16 32) : Prop :=
  (∀ a x, ((![v129] : Fin 1 → IVec S16 32) a x).toNat < S1000.size a) ∧
  (∀ a x, ((![v129] : Fin 1 → IVec S16 32) a x).toNat < S1000.size a)
theorem k0_idx47_inb : ∀ (v129 : IVec S16 32) (k0_hw24 : k0_chk24 v129), ∀ a x, ((![v129] : Fin 1 → IVec S16 32) a x).toNat < S1000.size a := fun v129 k0_hw24 => k0_hw24.1
theorem k0_idx48_inb : ∀ (v129 : IVec S16 32) (k0_hw24 : k0_chk24 v129), ∀ a x, ((![v129] : Fin 1 → IVec S16 32) a x).toNat < S1000.size a := fun v129 k0_hw24 => k0_hw24.2

def k0_chk25 (v134 : IVec S16 32) : Prop :=
  (∀ a x, ((![v134] : Fin 1 → IVec S16 32) a x).toNat < S1000.size a) ∧
  (∀ a x, ((![v134] : Fin 1 → IVec S16 32) a x).toNat < S1000.size a)
theorem k0_idx49_inb : ∀ (v134 : IVec S16 32) (k0_hw25 : k0_chk25 v134), ∀ a x, ((![v134] : Fin 1 → IVec S16 32) a x).toNat < S1000.size a := fun v134 k0_hw25 => k0_hw25.1
theorem k0_idx50_inb : ∀ (v134 : IVec S16 32) (k0_hw25 : k0_chk25 v134), ∀ a x, ((![v134] : Fin 1 → IVec S16 32) a x).toNat < S1000.size a := fun v134 k0_hw25 => k0_hw25.2

def k0_chk26 (v139 : IVec S16 32) : Prop :=
  (∀ a x, ((![v139] : Fin 1 → IVec S16 32) a x).toNat < S1000.size a) ∧
  (∀ a x, ((![v139] : Fin 1 → IVec S16 32) a x).toNat < S1000.size a)
theorem k0_idx51_inb : ∀ (v139 : IVec S16 32) (k0_hw26 : k0_chk26 v139), ∀ a x, ((![v139] : Fin 1 → IVec S16 32) a x).toNat < S1000.size a := fun v139 k0_hw26 => k0_hw26.1
theorem k0_idx52_inb : ∀ (v139 : IVec S16 32) (k0_hw26 : k0_chk26 v139), ∀ a x, ((![v139] : Fin 1 → IVec S16 32) a x).toNat < S1000.size a := fun v139 k0_hw26 => k0_hw26.2

def k0_chk27 (v144 : IVec S16 32) : Prop :=
  (∀ a x, ((![v144] : Fin 1 → IVec S16 32) a x).toNat < S1000.size a) ∧
  (∀ a x, ((![v144] : Fin 1 → IVec S16 32) a x).toNat < S1000.size a)
theorem k0_idx53_inb : ∀ (v144 : IVec S16 32) (k0_hw27 : k0_chk27 v144), ∀ a x, ((![v144] : Fin 1 → IVec S16 32) a x).toNat < S1000.size a := fun v144 k0_hw27 => k0_hw27.1
theorem k0_idx54_inb : ∀ (v144 : IVec S16 32) (k0_hw27 : k0_chk27 v144), ∀ a x, ((![v144] : Fin 1 → IVec S16 32) a x).toNat < S1000.size a := fun v144 k0_hw27 => k0_hw27.2

def k0_chk28 (v149 : IVec S16 32) : Prop :=
  (∀ a x, ((![v149] : Fin 1 → IVec S16 32) a x).toNat < S1000.size a) ∧
  (∀ a x, ((![v149] : Fin 1 → IVec S16 32) a x).toNat < S1000.size a)
theorem k0_idx55_inb : ∀ (v149 : IVec S16 32) (k0_hw28 : k0_chk28 v149), ∀ a x, ((![v149] : Fin 1 → IVec S16 32) a x).toNat < S1000.size a := fun v149 k0_hw28 => k0_hw28.1
theorem k0_idx56_inb : ∀ (v149 : IVec S16 32) (k0_hw28 : k0_chk28 v149), ∀ a x, ((![v149] : Fin 1 → IVec S16 32) a x).toNat < S1000.size a := fun v149 k0_hw28 => k0_hw28.2

def k0_chk29 (v154 : IVec S16 32) : Prop :=
  (∀ a x, ((![v154] : Fin 1 → IVec S16 32) a x).toNat < S1000.size a) ∧
  (∀ a x, ((![v154] : Fin 1 → IVec S16 32) a x).toNat < S1000.size a)
theorem k0_idx57_inb : ∀ (v154 : IVec S16 32) (k0_hw29 : k0_chk29 v154), ∀ a x, ((![v154] : Fin 1 → IVec S16 32) a x).toNat < S1000.size a := fun v154 k0_hw29 => k0_hw29.1
theorem k0_idx58_inb : ∀ (v154 : IVec S16 32) (k0_hw29 : k0_chk29 v154), ∀ a x, ((![v154] : Fin 1 → IVec S16 32) a x).toNat < S1000.size a := fun v154 k0_hw29 => k0_hw29.2

def k0_chk30 (v159 : IVec S16 32) : Prop :=
  (∀ a x, ((![v159] : Fin 1 → IVec S16 32) a x).toNat < S1000.size a) ∧
  (∀ a x, ((![v159] : Fin 1 → IVec S16 32) a x).toNat < S1000.size a)
theorem k0_idx59_inb : ∀ (v159 : IVec S16 32) (k0_hw30 : k0_chk30 v159), ∀ a x, ((![v159] : Fin 1 → IVec S16 32) a x).toNat < S1000.size a := fun v159 k0_hw30 => k0_hw30.1
theorem k0_idx60_inb : ∀ (v159 : IVec S16 32) (k0_hw30 : k0_chk30 v159), ∀ a x, ((![v159] : Fin 1 → IVec S16 32) a x).toNat < S1000.size a := fun v159 k0_hw30 => k0_hw30.2

def k0_chk31 (v164 : IVec S16 32) : Prop :=
  (∀ a x, ((![v164] : Fin 1 → IVec S16 32) a x).toNat < S1000.size a) ∧
  (∀ a x, ((![v164] : Fin 1 → IVec S16 32) a x).toNat < S1000.size a)
theorem k0_idx61_inb : ∀ (v164 : IVec S16 32) (k0_hw31 : k0_chk31 v164), ∀ a x, ((![v164] : Fin 1 → IVec S16 32) a x).toNat < S1000.size a := fun v164 k0_hw31 => k0_hw31.1
theorem k0_idx62_inb : ∀ (v164 : IVec S16 32) (k0_hw31 : k0_chk31 v164), ∀ a x, ((![v164] : Fin 1 → IVec S16 32) a x).toNat < S1000.size a := fun v164 k0_hw31 => k0_hw31.2

def k0_chk32 (v169 : IVec S16 32) : Prop :=
  (∀ a x, ((![v169] : Fin 1 → IVec S16 32) a x).toNat < S1000.size a) ∧
  (∀ a x, ((![v169] : Fin 1 → IVec S16 32) a x).toNat < S1000.size a)
theorem k0_idx63_inb : ∀ (v169 : IVec S16 32) (k0_hw32 : k0_chk32 v169), ∀ a x, ((![v169] : Fin 1 → IVec S16 32) a x).toNat < S1000.size a := fun v169 k0_hw32 => k0_hw32.1
theorem k0_idx64_inb : ∀ (v169 : IVec S16 32) (k0_hw32 : k0_chk32 v169), ∀ a x, ((![v169] : Fin 1 → IVec S16 32) a x).toNat < S1000.size a := fun v169 k0_hw32 => k0_hw32.2
def k0_off3 (i : grid0.Coords) : Fin 1 → Nat :=
  let arg1 : BitVec 32 := BitVec.ofNat 32 (i 1).val
  let c1024_i32 : BitVec 32 := 1024#32
  let v0 : BitVec 32 := Scalar.muli arg1 c1024_i32
  ![v0.toNat]
def k0_off4 (i : grid0.Coords) : Fin 1 → Nat :=
  let arg1 : BitVec 32 := BitVec.ofNat 32 (i 1).val
  let c1024_i32 : BitVec 32 := 1024#32
  let v0 : BitVec 32 := Scalar.muli arg1 c1024_i32
  let c512_i32 : BitVec 32 := 512#32
  let v1 : BitVec 32 := Scalar.addi v0 c512_i32
  ![v1.toNat]

def k0_chk33 (v186 : IVec S16 32) : Prop :=
  (∀ a x, ((![v186] : Fin 1 → IVec S16 32) a x).toNat < S1000.size a) ∧
  (∀ a x, ((![v186] : Fin 1 → IVec S16 32) a x).toNat < S1000.size a)
theorem k0_idx65_inb : ∀ (v186 : IVec S16 32) (k0_hw33 : k0_chk33 v186), ∀ a x, ((![v186] : Fin 1 → IVec S16 32) a x).toNat < S1000.size a := fun v186 k0_hw33 => k0_hw33.1
theorem k0_idx66_inb : ∀ (v186 : IVec S16 32) (k0_hw33 : k0_chk33 v186), ∀ a x, ((![v186] : Fin 1 → IVec S16 32) a x).toNat < S1000.size a := fun v186 k0_hw33 => k0_hw33.2

def k0_chk34 (v191 : IVec S16 32) : Prop :=
  (∀ a x, ((![v191] : Fin 1 → IVec S16 32) a x).toNat < S1000.size a) ∧
  (∀ a x, ((![v191] : Fin 1 → IVec S16 32) a x).toNat < S1000.size a)
theorem k0_idx67_inb : ∀ (v191 : IVec S16 32) (k0_hw34 : k0_chk34 v191), ∀ a x, ((![v191] : Fin 1 → IVec S16 32) a x).toNat < S1000.size a := fun v191 k0_hw34 => k0_hw34.1
theorem k0_idx68_inb : ∀ (v191 : IVec S16 32) (k0_hw34 : k0_chk34 v191), ∀ a x, ((![v191] : Fin 1 → IVec S16 32) a x).toNat < S1000.size a := fun v191 k0_hw34 => k0_hw34.2

def k0_chk35 (v196 : IVec S16 32) : Prop :=
  (∀ a x, ((![v196] : Fin 1 → IVec S16 32) a x).toNat < S1000.size a) ∧
  (∀ a x, ((![v196] : Fin 1 → IVec S16 32) a x).toNat < S1000.size a)
theorem k0_idx69_inb : ∀ (v196 : IVec S16 32) (k0_hw35 : k0_chk35 v196), ∀ a x, ((![v196] : Fin 1 → IVec S16 32) a x).toNat < S1000.size a := fun v196 k0_hw35 => k0_hw35.1
theorem k0_idx70_inb : ∀ (v196 : IVec S16 32) (k0_hw35 : k0_chk35 v196), ∀ a x, ((![v196] : Fin 1 → IVec S16 32) a x).toNat < S1000.size a := fun v196 k0_hw35 => k0_hw35.2

def k0_chk36 (v201 : IVec S16 32) : Prop :=
  (∀ a x, ((![v201] : Fin 1 → IVec S16 32) a x).toNat < S1000.size a) ∧
  (∀ a x, ((![v201] : Fin 1 → IVec S16 32) a x).toNat < S1000.size a)
theorem k0_idx71_inb : ∀ (v201 : IVec S16 32) (k0_hw36 : k0_chk36 v201), ∀ a x, ((![v201] : Fin 1 → IVec S16 32) a x).toNat < S1000.size a := fun v201 k0_hw36 => k0_hw36.1
theorem k0_idx72_inb : ∀ (v201 : IVec S16 32) (k0_hw36 : k0_chk36 v201), ∀ a x, ((![v201] : Fin 1 → IVec S16 32) a x).toNat < S1000.size a := fun v201 k0_hw36 => k0_hw36.2

def k0_chk37 (v206 : IVec S16 32) : Prop :=
  (∀ a x, ((![v206] : Fin 1 → IVec S16 32) a x).toNat < S1000.size a) ∧
  (∀ a x, ((![v206] : Fin 1 → IVec S16 32) a x).toNat < S1000.size a)
theorem k0_idx73_inb : ∀ (v206 : IVec S16 32) (k0_hw37 : k0_chk37 v206), ∀ a x, ((![v206] : Fin 1 → IVec S16 32) a x).toNat < S1000.size a := fun v206 k0_hw37 => k0_hw37.1
theorem k0_idx74_inb : ∀ (v206 : IVec S16 32) (k0_hw37 : k0_chk37 v206), ∀ a x, ((![v206] : Fin 1 → IVec S16 32) a x).toNat < S1000.size a := fun v206 k0_hw37 => k0_hw37.2

def k0_chk38 (v211 : IVec S16 32) : Prop :=
  (∀ a x, ((![v211] : Fin 1 → IVec S16 32) a x).toNat < S1000.size a) ∧
  (∀ a x, ((![v211] : Fin 1 → IVec S16 32) a x).toNat < S1000.size a)
theorem k0_idx75_inb : ∀ (v211 : IVec S16 32) (k0_hw38 : k0_chk38 v211), ∀ a x, ((![v211] : Fin 1 → IVec S16 32) a x).toNat < S1000.size a := fun v211 k0_hw38 => k0_hw38.1
theorem k0_idx76_inb : ∀ (v211 : IVec S16 32) (k0_hw38 : k0_chk38 v211), ∀ a x, ((![v211] : Fin 1 → IVec S16 32) a x).toNat < S1000.size a := fun v211 k0_hw38 => k0_hw38.2

def k0_chk39 (v216 : IVec S16 32) : Prop :=
  (∀ a x, ((![v216] : Fin 1 → IVec S16 32) a x).toNat < S1000.size a) ∧
  (∀ a x, ((![v216] : Fin 1 → IVec S16 32) a x).toNat < S1000.size a)
theorem k0_idx77_inb : ∀ (v216 : IVec S16 32) (k0_hw39 : k0_chk39 v216), ∀ a x, ((![v216] : Fin 1 → IVec S16 32) a x).toNat < S1000.size a := fun v216 k0_hw39 => k0_hw39.1
theorem k0_idx78_inb : ∀ (v216 : IVec S16 32) (k0_hw39 : k0_chk39 v216), ∀ a x, ((![v216] : Fin 1 → IVec S16 32) a x).toNat < S1000.size a := fun v216 k0_hw39 => k0_hw39.2

def k0_chk40 (v221 : IVec S16 32) : Prop :=
  (∀ a x, ((![v221] : Fin 1 → IVec S16 32) a x).toNat < S1000.size a) ∧
  (∀ a x, ((![v221] : Fin 1 → IVec S16 32) a x).toNat < S1000.size a)
theorem k0_idx79_inb : ∀ (v221 : IVec S16 32) (k0_hw40 : k0_chk40 v221), ∀ a x, ((![v221] : Fin 1 → IVec S16 32) a x).toNat < S1000.size a := fun v221 k0_hw40 => k0_hw40.1
theorem k0_idx80_inb : ∀ (v221 : IVec S16 32) (k0_hw40 : k0_chk40 v221), ∀ a x, ((![v221] : Fin 1 → IVec S16 32) a x).toNat < S1000.size a := fun v221 k0_hw40 => k0_hw40.2

def k0_chk41 (v226 : IVec S16 32) : Prop :=
  (∀ a x, ((![v226] : Fin 1 → IVec S16 32) a x).toNat < S1000.size a) ∧
  (∀ a x, ((![v226] : Fin 1 → IVec S16 32) a x).toNat < S1000.size a)
theorem k0_idx81_inb : ∀ (v226 : IVec S16 32) (k0_hw41 : k0_chk41 v226), ∀ a x, ((![v226] : Fin 1 → IVec S16 32) a x).toNat < S1000.size a := fun v226 k0_hw41 => k0_hw41.1
theorem k0_idx82_inb : ∀ (v226 : IVec S16 32) (k0_hw41 : k0_chk41 v226), ∀ a x, ((![v226] : Fin 1 → IVec S16 32) a x).toNat < S1000.size a := fun v226 k0_hw41 => k0_hw41.2

def k0_chk42 (v231 : IVec S16 32) : Prop :=
  (∀ a x, ((![v231] : Fin 1 → IVec S16 32) a x).toNat < S1000.size a) ∧
  (∀ a x, ((![v231] : Fin 1 → IVec S16 32) a x).toNat < S1000.size a)
theorem k0_idx83_inb : ∀ (v231 : IVec S16 32) (k0_hw42 : k0_chk42 v231), ∀ a x, ((![v231] : Fin 1 → IVec S16 32) a x).toNat < S1000.size a := fun v231 k0_hw42 => k0_hw42.1
theorem k0_idx84_inb : ∀ (v231 : IVec S16 32) (k0_hw42 : k0_chk42 v231), ∀ a x, ((![v231] : Fin 1 → IVec S16 32) a x).toNat < S1000.size a := fun v231 k0_hw42 => k0_hw42.2

def k0_chk43 (v236 : IVec S16 32) : Prop :=
  (∀ a x, ((![v236] : Fin 1 → IVec S16 32) a x).toNat < S1000.size a) ∧
  (∀ a x, ((![v236] : Fin 1 → IVec S16 32) a x).toNat < S1000.size a)
theorem k0_idx85_inb : ∀ (v236 : IVec S16 32) (k0_hw43 : k0_chk43 v236), ∀ a x, ((![v236] : Fin 1 → IVec S16 32) a x).toNat < S1000.size a := fun v236 k0_hw43 => k0_hw43.1
theorem k0_idx86_inb : ∀ (v236 : IVec S16 32) (k0_hw43 : k0_chk43 v236), ∀ a x, ((![v236] : Fin 1 → IVec S16 32) a x).toNat < S1000.size a := fun v236 k0_hw43 => k0_hw43.2

def k0_chk44 (v241 : IVec S16 32) : Prop :=
  (∀ a x, ((![v241] : Fin 1 → IVec S16 32) a x).toNat < S1000.size a) ∧
  (∀ a x, ((![v241] : Fin 1 → IVec S16 32) a x).toNat < S1000.size a)
theorem k0_idx87_inb : ∀ (v241 : IVec S16 32) (k0_hw44 : k0_chk44 v241), ∀ a x, ((![v241] : Fin 1 → IVec S16 32) a x).toNat < S1000.size a := fun v241 k0_hw44 => k0_hw44.1
theorem k0_idx88_inb : ∀ (v241 : IVec S16 32) (k0_hw44 : k0_chk44 v241), ∀ a x, ((![v241] : Fin 1 → IVec S16 32) a x).toNat < S1000.size a := fun v241 k0_hw44 => k0_hw44.2

def k0_chk45 (v246 : IVec S16 32) : Prop :=
  (∀ a x, ((![v246] : Fin 1 → IVec S16 32) a x).toNat < S1000.size a) ∧
  (∀ a x, ((![v246] : Fin 1 → IVec S16 32) a x).toNat < S1000.size a)
theorem k0_idx89_inb : ∀ (v246 : IVec S16 32) (k0_hw45 : k0_chk45 v246), ∀ a x, ((![v246] : Fin 1 → IVec S16 32) a x).toNat < S1000.size a := fun v246 k0_hw45 => k0_hw45.1
theorem k0_idx90_inb : ∀ (v246 : IVec S16 32) (k0_hw45 : k0_chk45 v246), ∀ a x, ((![v246] : Fin 1 → IVec S16 32) a x).toNat < S1000.size a := fun v246 k0_hw45 => k0_hw45.2

def k0_chk46 (v251 : IVec S16 32) : Prop :=
  (∀ a x, ((![v251] : Fin 1 → IVec S16 32) a x).toNat < S1000.size a) ∧
  (∀ a x, ((![v251] : Fin 1 → IVec S16 32) a x).toNat < S1000.size a)
theorem k0_idx91_inb : ∀ (v251 : IVec S16 32) (k0_hw46 : k0_chk46 v251), ∀ a x, ((![v251] : Fin 1 → IVec S16 32) a x).toNat < S1000.size a := fun v251 k0_hw46 => k0_hw46.1
theorem k0_idx92_inb : ∀ (v251 : IVec S16 32) (k0_hw46 : k0_chk46 v251), ∀ a x, ((![v251] : Fin 1 → IVec S16 32) a x).toNat < S1000.size a := fun v251 k0_hw46 => k0_hw46.2

def k0_chk47 (v256 : IVec S16 32) : Prop :=
  (∀ a x, ((![v256] : Fin 1 → IVec S16 32) a x).toNat < S1000.size a) ∧
  (∀ a x, ((![v256] : Fin 1 → IVec S16 32) a x).toNat < S1000.size a)
theorem k0_idx93_inb : ∀ (v256 : IVec S16 32) (k0_hw47 : k0_chk47 v256), ∀ a x, ((![v256] : Fin 1 → IVec S16 32) a x).toNat < S1000.size a := fun v256 k0_hw47 => k0_hw47.1
theorem k0_idx94_inb : ∀ (v256 : IVec S16 32) (k0_hw47 : k0_chk47 v256), ∀ a x, ((![v256] : Fin 1 → IVec S16 32) a x).toNat < S1000.size a := fun v256 k0_hw47 => k0_hw47.2

def k0_chk48 (v261 : IVec S16 32) : Prop :=
  (∀ a x, ((![v261] : Fin 1 → IVec S16 32) a x).toNat < S1000.size a) ∧
  (∀ a x, ((![v261] : Fin 1 → IVec S16 32) a x).toNat < S1000.size a)
theorem k0_idx95_inb : ∀ (v261 : IVec S16 32) (k0_hw48 : k0_chk48 v261), ∀ a x, ((![v261] : Fin 1 → IVec S16 32) a x).toNat < S1000.size a := fun v261 k0_hw48 => k0_hw48.1
theorem k0_idx96_inb : ∀ (v261 : IVec S16 32) (k0_hw48 : k0_chk48 v261), ∀ a x, ((![v261] : Fin 1 → IVec S16 32) a x).toNat < S1000.size a := fun v261 k0_hw48 => k0_hw48.2

def k0_chk49 (v266 : IVec S16 32) : Prop :=
  (∀ a x, ((![v266] : Fin 1 → IVec S16 32) a x).toNat < S1000.size a) ∧
  (∀ a x, ((![v266] : Fin 1 → IVec S16 32) a x).toNat < S1000.size a)
theorem k0_idx97_inb : ∀ (v266 : IVec S16 32) (k0_hw49 : k0_chk49 v266), ∀ a x, ((![v266] : Fin 1 → IVec S16 32) a x).toNat < S1000.size a := fun v266 k0_hw49 => k0_hw49.1
theorem k0_idx98_inb : ∀ (v266 : IVec S16 32) (k0_hw49 : k0_chk49 v266), ∀ a x, ((![v266] : Fin 1 → IVec S16 32) a x).toNat < S1000.size a := fun v266 k0_hw49 => k0_hw49.2

def k0_chk50 (v271 : IVec S16 32) : Prop :=
  (∀ a x, ((![v271] : Fin 1 → IVec S16 32) a x).toNat < S1000.size a) ∧
  (∀ a x, ((![v271] : Fin 1 → IVec S16 32) a x).toNat < S1000.size a)
theorem k0_idx99_inb : ∀ (v271 : IVec S16 32) (k0_hw50 : k0_chk50 v271), ∀ a x, ((![v271] : Fin 1 → IVec S16 32) a x).toNat < S1000.size a := fun v271 k0_hw50 => k0_hw50.1
theorem k0_idx100_inb : ∀ (v271 : IVec S16 32) (k0_hw50 : k0_chk50 v271), ∀ a x, ((![v271] : Fin 1 → IVec S16 32) a x).toNat < S1000.size a := fun v271 k0_hw50 => k0_hw50.2

def k0_chk51 (v276 : IVec S16 32) : Prop :=
  (∀ a x, ((![v276] : Fin 1 → IVec S16 32) a x).toNat < S1000.size a) ∧
  (∀ a x, ((![v276] : Fin 1 → IVec S16 32) a x).toNat < S1000.size a)
theorem k0_idx101_inb : ∀ (v276 : IVec S16 32) (k0_hw51 : k0_chk51 v276), ∀ a x, ((![v276] : Fin 1 → IVec S16 32) a x).toNat < S1000.size a := fun v276 k0_hw51 => k0_hw51.1
theorem k0_idx102_inb : ∀ (v276 : IVec S16 32) (k0_hw51 : k0_chk51 v276), ∀ a x, ((![v276] : Fin 1 → IVec S16 32) a x).toNat < S1000.size a := fun v276 k0_hw51 => k0_hw51.2

def k0_chk52 (v281 : IVec S16 32) : Prop :=
  (∀ a x, ((![v281] : Fin 1 → IVec S16 32) a x).toNat < S1000.size a) ∧
  (∀ a x, ((![v281] : Fin 1 → IVec S16 32) a x).toNat < S1000.size a)
theorem k0_idx103_inb : ∀ (v281 : IVec S16 32) (k0_hw52 : k0_chk52 v281), ∀ a x, ((![v281] : Fin 1 → IVec S16 32) a x).toNat < S1000.size a := fun v281 k0_hw52 => k0_hw52.1
theorem k0_idx104_inb : ∀ (v281 : IVec S16 32) (k0_hw52 : k0_chk52 v281), ∀ a x, ((![v281] : Fin 1 → IVec S16 32) a x).toNat < S1000.size a := fun v281 k0_hw52 => k0_hw52.2

def k0_chk53 (v286 : IVec S16 32) : Prop :=
  (∀ a x, ((![v286] : Fin 1 → IVec S16 32) a x).toNat < S1000.size a) ∧
  (∀ a x, ((![v286] : Fin 1 → IVec S16 32) a x).toNat < S1000.size a)
theorem k0_idx105_inb : ∀ (v286 : IVec S16 32) (k0_hw53 : k0_chk53 v286), ∀ a x, ((![v286] : Fin 1 → IVec S16 32) a x).toNat < S1000.size a := fun v286 k0_hw53 => k0_hw53.1
theorem k0_idx106_inb : ∀ (v286 : IVec S16 32) (k0_hw53 : k0_chk53 v286), ∀ a x, ((![v286] : Fin 1 → IVec S16 32) a x).toNat < S1000.size a := fun v286 k0_hw53 => k0_hw53.2

def k0_chk54 (v291 : IVec S16 32) : Prop :=
  (∀ a x, ((![v291] : Fin 1 → IVec S16 32) a x).toNat < S1000.size a) ∧
  (∀ a x, ((![v291] : Fin 1 → IVec S16 32) a x).toNat < S1000.size a)
theorem k0_idx107_inb : ∀ (v291 : IVec S16 32) (k0_hw54 : k0_chk54 v291), ∀ a x, ((![v291] : Fin 1 → IVec S16 32) a x).toNat < S1000.size a := fun v291 k0_hw54 => k0_hw54.1
theorem k0_idx108_inb : ∀ (v291 : IVec S16 32) (k0_hw54 : k0_chk54 v291), ∀ a x, ((![v291] : Fin 1 → IVec S16 32) a x).toNat < S1000.size a := fun v291 k0_hw54 => k0_hw54.2

def k0_chk55 (v296 : IVec S16 32) : Prop :=
  (∀ a x, ((![v296] : Fin 1 → IVec S16 32) a x).toNat < S1000.size a) ∧
  (∀ a x, ((![v296] : Fin 1 → IVec S16 32) a x).toNat < S1000.size a)
theorem k0_idx109_inb : ∀ (v296 : IVec S16 32) (k0_hw55 : k0_chk55 v296), ∀ a x, ((![v296] : Fin 1 → IVec S16 32) a x).toNat < S1000.size a := fun v296 k0_hw55 => k0_hw55.1
theorem k0_idx110_inb : ∀ (v296 : IVec S16 32) (k0_hw55 : k0_chk55 v296), ∀ a x, ((![v296] : Fin 1 → IVec S16 32) a x).toNat < S1000.size a := fun v296 k0_hw55 => k0_hw55.2

def k0_chk56 (v301 : IVec S16 32) : Prop :=
  (∀ a x, ((![v301] : Fin 1 → IVec S16 32) a x).toNat < S1000.size a) ∧
  (∀ a x, ((![v301] : Fin 1 → IVec S16 32) a x).toNat < S1000.size a)
theorem k0_idx111_inb : ∀ (v301 : IVec S16 32) (k0_hw56 : k0_chk56 v301), ∀ a x, ((![v301] : Fin 1 → IVec S16 32) a x).toNat < S1000.size a := fun v301 k0_hw56 => k0_hw56.1
theorem k0_idx112_inb : ∀ (v301 : IVec S16 32) (k0_hw56 : k0_chk56 v301), ∀ a x, ((![v301] : Fin 1 → IVec S16 32) a x).toNat < S1000.size a := fun v301 k0_hw56 => k0_hw56.2

def k0_chk57 (v306 : IVec S16 32) : Prop :=
  (∀ a x, ((![v306] : Fin 1 → IVec S16 32) a x).toNat < S1000.size a) ∧
  (∀ a x, ((![v306] : Fin 1 → IVec S16 32) a x).toNat < S1000.size a)
theorem k0_idx113_inb : ∀ (v306 : IVec S16 32) (k0_hw57 : k0_chk57 v306), ∀ a x, ((![v306] : Fin 1 → IVec S16 32) a x).toNat < S1000.size a := fun v306 k0_hw57 => k0_hw57.1
theorem k0_idx114_inb : ∀ (v306 : IVec S16 32) (k0_hw57 : k0_chk57 v306), ∀ a x, ((![v306] : Fin 1 → IVec S16 32) a x).toNat < S1000.size a := fun v306 k0_hw57 => k0_hw57.2

def k0_chk58 (v311 : IVec S16 32) : Prop :=
  (∀ a x, ((![v311] : Fin 1 → IVec S16 32) a x).toNat < S1000.size a) ∧
  (∀ a x, ((![v311] : Fin 1 → IVec S16 32) a x).toNat < S1000.size a)
theorem k0_idx115_inb : ∀ (v311 : IVec S16 32) (k0_hw58 : k0_chk58 v311), ∀ a x, ((![v311] : Fin 1 → IVec S16 32) a x).toNat < S1000.size a := fun v311 k0_hw58 => k0_hw58.1
theorem k0_idx116_inb : ∀ (v311 : IVec S16 32) (k0_hw58 : k0_chk58 v311), ∀ a x, ((![v311] : Fin 1 → IVec S16 32) a x).toNat < S1000.size a := fun v311 k0_hw58 => k0_hw58.2

def k0_chk59 (v316 : IVec S16 32) : Prop :=
  (∀ a x, ((![v316] : Fin 1 → IVec S16 32) a x).toNat < S1000.size a) ∧
  (∀ a x, ((![v316] : Fin 1 → IVec S16 32) a x).toNat < S1000.size a)
theorem k0_idx117_inb : ∀ (v316 : IVec S16 32) (k0_hw59 : k0_chk59 v316), ∀ a x, ((![v316] : Fin 1 → IVec S16 32) a x).toNat < S1000.size a := fun v316 k0_hw59 => k0_hw59.1
theorem k0_idx118_inb : ∀ (v316 : IVec S16 32) (k0_hw59 : k0_chk59 v316), ∀ a x, ((![v316] : Fin 1 → IVec S16 32) a x).toNat < S1000.size a := fun v316 k0_hw59 => k0_hw59.2

def k0_chk60 (v321 : IVec S16 32) : Prop :=
  (∀ a x, ((![v321] : Fin 1 → IVec S16 32) a x).toNat < S1000.size a) ∧
  (∀ a x, ((![v321] : Fin 1 → IVec S16 32) a x).toNat < S1000.size a)
theorem k0_idx119_inb : ∀ (v321 : IVec S16 32) (k0_hw60 : k0_chk60 v321), ∀ a x, ((![v321] : Fin 1 → IVec S16 32) a x).toNat < S1000.size a := fun v321 k0_hw60 => k0_hw60.1
theorem k0_idx120_inb : ∀ (v321 : IVec S16 32) (k0_hw60 : k0_chk60 v321), ∀ a x, ((![v321] : Fin 1 → IVec S16 32) a x).toNat < S1000.size a := fun v321 k0_hw60 => k0_hw60.2

def k0_chk61 (v326 : IVec S16 32) : Prop :=
  (∀ a x, ((![v326] : Fin 1 → IVec S16 32) a x).toNat < S1000.size a) ∧
  (∀ a x, ((![v326] : Fin 1 → IVec S16 32) a x).toNat < S1000.size a)
theorem k0_idx121_inb : ∀ (v326 : IVec S16 32) (k0_hw61 : k0_chk61 v326), ∀ a x, ((![v326] : Fin 1 → IVec S16 32) a x).toNat < S1000.size a := fun v326 k0_hw61 => k0_hw61.1
theorem k0_idx122_inb : ∀ (v326 : IVec S16 32) (k0_hw61 : k0_chk61 v326), ∀ a x, ((![v326] : Fin 1 → IVec S16 32) a x).toNat < S1000.size a := fun v326 k0_hw61 => k0_hw61.2

def k0_chk62 (v331 : IVec S16 32) : Prop :=
  (∀ a x, ((![v331] : Fin 1 → IVec S16 32) a x).toNat < S1000.size a) ∧
  (∀ a x, ((![v331] : Fin 1 → IVec S16 32) a x).toNat < S1000.size a)
theorem k0_idx123_inb : ∀ (v331 : IVec S16 32) (k0_hw62 : k0_chk62 v331), ∀ a x, ((![v331] : Fin 1 → IVec S16 32) a x).toNat < S1000.size a := fun v331 k0_hw62 => k0_hw62.1
theorem k0_idx124_inb : ∀ (v331 : IVec S16 32) (k0_hw62 : k0_chk62 v331), ∀ a x, ((![v331] : Fin 1 → IVec S16 32) a x).toNat < S1000.size a := fun v331 k0_hw62 => k0_hw62.2

def k0_chk63 (v336 : IVec S16 32) : Prop :=
  (∀ a x, ((![v336] : Fin 1 → IVec S16 32) a x).toNat < S1000.size a) ∧
  (∀ a x, ((![v336] : Fin 1 → IVec S16 32) a x).toNat < S1000.size a)
theorem k0_idx125_inb : ∀ (v336 : IVec S16 32) (k0_hw63 : k0_chk63 v336), ∀ a x, ((![v336] : Fin 1 → IVec S16 32) a x).toNat < S1000.size a := fun v336 k0_hw63 => k0_hw63.1
theorem k0_idx126_inb : ∀ (v336 : IVec S16 32) (k0_hw63 : k0_chk63 v336), ∀ a x, ((![v336] : Fin 1 → IVec S16 32) a x).toNat < S1000.size a := fun v336 k0_hw63 => k0_hw63.2

def k0_chk64 (v341 : IVec S16 32) : Prop :=
  (∀ a x, ((![v341] : Fin 1 → IVec S16 32) a x).toNat < S1000.size a) ∧
  (∀ a x, ((![v341] : Fin 1 → IVec S16 32) a x).toNat < S1000.size a)
theorem k0_idx127_inb : ∀ (v341 : IVec S16 32) (k0_hw64 : k0_chk64 v341), ∀ a x, ((![v341] : Fin 1 → IVec S16 32) a x).toNat < S1000.size a := fun v341 k0_hw64 => k0_hw64.1
theorem k0_idx128_inb : ∀ (v341 : IVec S16 32) (k0_hw64 : k0_chk64 v341), ∀ a x, ((![v341] : Fin 1 → IVec S16 32) a x).toNat < S1000.size a := fun v341 k0_hw64 => k0_hw64.2
def k0_off5 (i : grid0.Coords) : Fin 1 → Nat :=
  let arg1 : BitVec 32 := BitVec.ofNat 32 (i 1).val
  let c1024_i32 : BitVec 32 := 1024#32
  let v0 : BitVec 32 := Scalar.muli arg1 c1024_i32
  let c512_i32_139 : BitVec 32 := 512#32
  let v346 : BitVec 32 := Scalar.addi v0 c512_i32_139
  ![v346.toNat]
def k0_off6 (i : grid0.Coords) : Fin 1 → Nat :=
  let arg1 : BitVec 32 := BitVec.ofNat 32 (i 1).val
  let c1024_i32 : BitVec 32 := 1024#32
  let v0 : BitVec 32 := Scalar.muli arg1 c1024_i32
  ![v0.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000 : Shape := ⟨1, ![1000]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000, .f32⟩
  | .hbm, ⟨2, _⟩ => ⟨S1000, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v1 : Ref sig .tc := ⟨.hbm, 46, rfl⟩

abbrev nD : Nat := 1
abbrev τ : Topo := Topo.v7x

variable {F : FTy → Type} [FloatOps F]
-- ==== Proof.Rows.lean ====
/-
  The gather kernel's tile program written as rows: the printed body does the same eight operations for each of its 64
  rows of sixteen lanes, cut into windows at places that fall inside a row. Here one row is a definition at a symbolic
  offset, a run of rows is a recursion over it, and the printed body is shown to BE two runs of 32 rows with the copies
  and waits around them, by definitional unfolding.
-/
module

public import proofs.«01_k».proof.Defs
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic Idealize.SL.Sem

variable {F : FTy → Type} [FloatOps F]

/-- The effects of the tile at grid point `i`. -/
abbrev TileEff (F : FTy → Type) (i : grid0.Coords) : Type → Type _ :=
  TpuEff nD τ sig (Elt F) Λ₀ (.scVector ((i 0).castLE hcore0) ((i 1).castLE hsub0))

/-- Sixteen lanes from `o` lie in the 1024 words of a tile's row buffer. -/
theorem row_inb {o : ℕ} (h : o + 16 ≤ 1024) : ∀ a, (![o] : Fin 1 → ℕ) a + S16.size a ≤ S1024.size a := by
  intro a; match a with | 0 => exact h

/-- One row of the gather: sixteen indices are read at `o`, checked, and the two tables' entries at them are stored at
    `o` of the two output rows; then `k`. -/
def row (i : grid0.Coords) (idx : Memref sig .scVector .vmem S1024 .i32) (tb ta : Memref sig .scVector .vmem S1000 .f32)
    (oa ob : Memref sig .scVector .vmem S1024 .f32) (o : ℕ) (h : o + 16 ≤ 1024) (k : Prog (TileEff F i) PUnit) :
    Prog (TileEff F i) PUnit :=
  .op (.load idx (Rect.unit (s := S1024) ![o] S16.size (row_inb h)).toLoadRect (View.loadsAt_vmem h_S16)) fun (v : Vec F S16 .i32) =>
  .op (.assume (k0_chk1 v) (k0_chk1.dec v)) fun w =>
  SparseCore.vectorLoadIdx ta ![v] (k0_idx1_inb v w.down) (View.loads_vmem h_S1000) >>= fun (x : Vec F S16 .f32) =>
  .op (.load oa (Rect.unit (s := S1024) ![o] S16.size (row_inb h)).toLoadRect (View.loadsAt_vmem h_S16)) fun _ =>
  .op (.store oa (Rect.unit (s := S1024) ![o] S16.size (row_inb h)) x Finset.univ (View.stores_vmem_bits_univ h_S16 rfl) (.inl rfl)) fun _ =>
  SparseCore.vectorLoadIdx tb ![v] (k0_idx2_inb v w.down) (View.loads_vmem h_S1000) >>= fun (y : Vec F S16 .f32) =>
  .op (.load ob (Rect.unit (s := S1024) ![o] S16.size (row_inb h)).toLoadRect (View.loadsAt_vmem h_S16)) fun _ =>
  .op (.store ob (Rect.unit (s := S1024) ![o] S16.size (row_inb h)) y Finset.univ (View.stores_vmem_bits_univ h_S16 rfl) (.inl rfl)) fun _ => k

/-- `n` rows from `o`, then `k`. -/
def rows (i : grid0.Coords) (idx : Memref sig .scVector .vmem S1024 .i32) (tb ta : Memref sig .scVector .vmem S1000 .f32)
    (oa ob : Memref sig .scVector .vmem S1024 .f32) : (n o : ℕ) → o + 16 * n ≤ 1024 → Prog (TileEff F i) PUnit → Prog (TileEff F i) PUnit
  | 0, _, _, k => k
  | n + 1, o, h, k => row i idx tb ta oa ob o (by omega) (rows i idx tb ta oa ob n (o + 16) (by omega) k)

section Body

variable (i : grid0.Coords) (arg2 : Memref sig .scVector .hbm S16384 .i32) (harg2 : arg2.IsWhole) (arg3 : Memref sig .scVector .hbm S1000 .f32) (harg3 : arg3.IsWhole) (arg4 : Memref sig .scVector .hbm S1000 .f32) (harg4 : arg4.IsWhole) (arg5 : Memref sig .scVector .hbm S16384 .f32) (harg5 : arg5.IsWhole) (arg6 : Memref sig .scVector .hbm S16384 .f32) (harg6 : arg6.IsWhole) (arg7 : Memref sig .scVector .vmem S1024 .i32) (harg7 : arg7.IsWhole) (arg8 : Memref sig .scVector .vmem S1000 .f32) (harg8 : arg8.IsWhole) (arg9 : Memref sig .scVector .vmem S1000 .f32) (harg9 : arg9.IsWhole) (arg10 : Memref sig .scVector .vmem S1024 .f32) (harg10 : arg10.IsWhole) (arg11 : Memref sig .scVector .vmem S1024 .f32) (harg11 : arg11.IsWhole) (arg12 : DmaSems sig S_) (arg13 : DmaSems sig S_) (arg14 : DmaSems sig S_) (arg15 : DmaSems sig S_)

/-- The 512 words of a buffer of 1024 from word 0, and from word 512. -/
abbrev lo {sp : Space} {e : EltTy} (b : Memref sig .scVector sp S1024 e) : Memref sig .scVector sp S512 e :=
  b.slice (Rect.unit (s := S1024) ![0] S512.size inb_S1024_S512_0) (fun _ => rfl)
abbrev hi {sp : Space} {e : EltTy} (b : Memref sig .scVector sp S1024 e) : Memref sig .scVector sp S512 e :=
  b.slice (Rect.unit (s := S1024) ![512] S512.size inb_S1024_S512_512) (fun _ => rfl)

/-- The tile's first 512 words of an array of 16384 (at its first offset), and its second 512. -/
abbrev glo {sp : Space} {e : EltTy} (b : Memref sig .scVector sp S16384 e) : Memref sig .scVector sp S512 e :=
  b.slice (Rect.unit (s := S16384) (k0_off1 i) S512.size (k0_off1_inb i)) (fun _ => rfl)
abbrev ghi {sp : Space} {e : EltTy} (b : Memref sig .scVector sp S16384 e) : Memref sig .scVector sp S512 e :=
  b.slice (Rect.unit (s := S16384) (k0_off2 i) S512.size (k0_off2_inb i)) (fun _ => rfl)

/-- The tile's program: the indices and the tables copied in, 32 rows, their copies out, 32 rows, their copies out, and
    the waits. -/
def tileProg : Prog (TileEff F i) PUnit :=
  .op (.enqueueDma (glo i arg2) (.here (lo arg7)) (.dma arg12.sem) (View.wordExact_bits rfl) (View.wordExact_bits rfl) ⟨Or.inl rfl, trivial⟩) fun _ =>
  .op (.enqueueDma arg4 (.here arg9) (.dma arg14.sem) harg4.wordExact harg9.wordExact ⟨Or.inl rfl, trivial⟩) fun _ =>
  .op (.enqueueDma arg3 (.here arg8) (.dma arg14.sem) harg3.wordExact harg8.wordExact ⟨Or.inl rfl, trivial⟩) fun _ =>
  .op (.enqueueDma (ghi i arg2) (.here (hi arg7)) (.dma arg13.sem) (View.wordExact_bits rfl) (View.wordExact_bits rfl) ⟨Or.inl rfl, trivial⟩) fun _ =>
  .op (.waitDma2 arg12.sem (glo i arg2) (lo arg7) (View.wordExact_bits rfl) (View.wordExact_bits rfl)) fun _ =>
  .op (.waitDma2 arg14.sem arg4 arg9 harg4.wordExact harg9.wordExact) fun _ =>
  .op (.waitDma2 arg14.sem arg3 arg8 harg3.wordExact harg8.wordExact) fun _ =>
  rows i arg7 arg8 arg9 arg10 arg11 32 0 (by decide) <|
  .op (.enqueueDma (lo arg10) (.here (glo i arg5)) (.dma arg15.sem) (View.wordExact_bits rfl) (View.wordExact_bits rfl) ⟨Or.inl rfl, trivial⟩) fun _ =>
  .op (.enqueueDma (lo arg11) (.here (glo i arg6)) (.dma arg15.sem) (View.wordExact_bits rfl) (View.wordExact_bits rfl) ⟨Or.inl rfl, trivial⟩) fun _ =>
  .op (.waitDma2 arg13.sem (ghi i arg2) (hi arg7) (View.wordExact_bits rfl) (View.wordExact_bits rfl)) fun _ =>
  rows i arg7 arg8 arg9 arg10 arg11 32 512 (by decide) <|
  .op (.enqueueDma (hi arg10) (.here (ghi i arg5)) (.dma arg15.sem) (View.wordExact_bits rfl) (View.wordExact_bits rfl) ⟨Or.inl rfl, trivial⟩) fun _ =>
  .op (.enqueueDma (hi arg11) (.here (ghi i arg6)) (.dma arg15.sem) (View.wordExact_bits rfl) (View.wordExact_bits rfl) ⟨Or.inl rfl, trivial⟩) fun _ =>
  .op (.waitDma2 arg15.sem (lo arg10) (glo i arg5) (View.wordExact_bits rfl) (View.wordExact_bits rfl)) fun _ =>
  .op (.waitDma2 arg15.sem (lo arg11) (glo i arg6) (View.wordExact_bits rfl) (View.wordExact_bits rfl)) fun _ =>
  .op (.waitDma2 arg15.sem (hi arg10) (ghi i arg5) (View.wordExact_bits rfl) (View.wordExact_bits rfl)) fun _ =>
  .op (.waitDma2 arg15.sem (hi arg11) (ghi i arg6) (View.wordExact_bits rfl) (View.wordExact_bits rfl)) fun _ =>
  .ret ⟨⟩

set_option maxRecDepth 65536 in
set_option maxHeartbeats 4000000 in
/-- The printed body is `tileProg`, by definitional unfolding. -/
theorem body_eq :
    cc0__gather_sc (F := F) i arg2 harg2 arg3 harg3 arg4 harg4 arg5 harg5 arg6 harg6 arg7 harg7 arg8 harg8 arg9 harg9 arg10 harg10 arg11 harg11 arg12 arg13 arg14 arg15
      = tileProg i arg2 arg3 harg3 arg4 harg4 arg5 arg6 arg7 arg8 harg8 arg9 harg9 arg10 arg11 arg12 arg13 arg14 arg15 := rfl

end Body

end Cert.Proof.Gather

end

end
-- ==== Proof.Row.lean ====
/-
  One row of the gather, and a run of rows: what a tile holds before and after. A tile holds its indices, its copies of
  the two tables, and the two row buffers it fills; row `o` fills lanes `o … o + 15` of both with the tables' entries at
  the indices there and changes nothing else.
-/
module

public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds library beside the transfers' counters -/

abbrev UH : Type := URounds (GSem nD τ sig) ℕ
abbrev UU : Type := UH × Counters

local notation "𝕄" => MT nD τ sig (HIx 1) (Elt F) ℕ UU ℕ

/-- The handshakes' rounds library sits in the left factor; the transfers' counters are found in the right. -/
abbrev EH : Emb UH (MT nD τ sig (HIx 1) (Elt F) ℕ UU ℕ) := embL
/-- The transfers' counters. -/
abbrev EC : UEmb Counters (MT nD τ sig (HIx 1) (Elt F) ℕ UU ℕ) := countersEmb (U := UU)

/-! ## The tile's scratch -/

abbrev sI : Memref sig .scVector .vmem S1024 .i32 := Memref.whole cc0_scratch0
abbrev sB : Memref sig .scVector .vmem S1000 .f32 := Memref.whole cc0_scratch1
abbrev sA : Memref sig .scVector .vmem S1000 .f32 := Memref.whole cc0_scratch2
abbrev sOA : Memref sig .scVector .vmem S1024 .f32 := Memref.whole cc0_scratch3
abbrev sOB : Memref sig .scVector .vmem S1024 .f32 := Memref.whole cc0_scratch4

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-! ## The values a row writes -/

/-- A table's entry at a word, the word taken below 1000. -/
def at' (f : S1000.Idx → Elt F .f32) (w : BitVec 32) : Elt F .f32 :=
  f fun a => match a with | 0 => ⟨w.toNat % 1000, Nat.mod_lt _ (by decide)⟩

/-- A row buffer whose lanes below `o` are `g`'s and whose others are `f`'s. -/
def mix (o : ℕ) (g f : S1024.Idx → Elt F .f32) : S1024.Idx → Elt F .f32 := fun j => if (j 0).val < o then g j else f j

abbrev rO (o : ℕ) (h : o + 16 ≤ 1024) : Rect S1024 := Rect.unit (s := S1024) ![o] S16.size (row_inb h)

/-- Where lane `x` of the row at `o` sits. -/
theorem rO_emb (o : ℕ) (h : o + 16 ≤ 1024) (x : (rO o h).shape.Idx) : ((rO o h).emb x 0 : ℕ) = o + (x 0 : ℕ) := by
  rw [Rect.emb_apply]; show o + 1 * (x 0 : ℕ) = _; omega

/-- The lanes of the row at `o`. -/
theorem mem_rO {o : ℕ} {h : o + 16 ≤ 1024} {j : S1024.Idx} : j ∈ (rO o h).set ↔ o ≤ (j 0).val ∧ (j 0).val < o + 16 := by
  refine Rect.mem_set_unit.trans ⟨fun hj => hj 0, fun hj a => ?_⟩
  match a with | 0 => exact hj

/-- Storing `g`'s lanes `o … o + 15` into row buffer `oa`, `g` below `o` already, makes it `g` below `o + 16`. -/
theorem mix_write_A (o : ℕ) (h : o + 16 ≤ 1024) (g f : S1024.Idx → Elt F .f32) (w : S16.Idx → Elt F .f32)
    (hw : ∀ x : S16.Idx, w x = g ((rO o h).emb x)) :
    (sOA.access (rO o h)).write (Elt F) (mix o g f) w Finset.univ = mix (o + 16) g f := by
  funext j
  have hset : (sOA.access (rO o h)).set = (rO o h).set := View.set_slice_whole _ _
  by_cases hj : j ∈ (rO o h).set
  · obtain ⟨x, hx⟩ := LoadRect.exists_idx_of_mem _ hj
    have hlt := (mem_rO.mp hj).2
    subst hx
    refine (View.write_emb_of_mem (v := sOA.access (rO o h)) (mix o g f) w (Finset.mem_univ x)).trans ?_
    refine (cast_eq _ _).trans ((hw x).trans ?_)
    exact (if_pos hlt).symm
  · rw [View.write_of_not_mem _ _ _ (by rw [View.setOn_univ, hset]; exact hj)]
    have : ¬ (o ≤ (j 0).val ∧ (j 0).val < o + 16) := fun e => hj (mem_rO.mpr e)
    unfold mix
    by_cases h1 : (j 0).val < o
    · rw [if_pos h1, if_pos (by omega)]
    · rw [if_neg h1, if_neg (by omega)]

/-- The same for row buffer `ob`. -/
theorem mix_write_B (o : ℕ) (h : o + 16 ≤ 1024) (g f : S1024.Idx → Elt F .f32) (w : S16.Idx → Elt F .f32)
    (hw : ∀ x : S16.Idx, w x = g ((rO o h).emb x)) :
    (sOB.access (rO o h)).write (Elt F) (mix o g f) w Finset.univ = mix (o + 16) g f := mix_write_A o h g f w hw

variable [FloatOps F]

/-- The indices a row loads. -/
abbrev words (fi : S1024.Idx → BitVec 32) (o : ℕ) (h : o + 16 ≤ 1024) : Vec F S16 .i32 := fun x => fi ((rO o h).emb x)

/-- They pass the row's check when every index is below 1000. -/
theorem chk_words {fi : S1024.Idx → BitVec 32} (hfi : ∀ j, (fi j).toNat < 1000) (o : ℕ) (h : o + 16 ≤ 1024) :
    k0_chk1 (words (F := F) fi o h) := by
  refine ⟨fun a x => ?_, fun a x => ?_⟩ <;>
  · match a with | 0 => exact hfi _

section Row

variable (d : Dev nD) (L : grid0.Coords)
variable (fi : S1024.Idx → BitVec 32) (fa fb : S1000.Idx → Elt F .f32)

/-- What a tile fills row buffers from and with: the indices of `H`, its copies of the tables, and the two row buffers'
    `H`, filled below `o`. -/
abbrev St (H : Finset S1024.Idx) (f₃ f₄ : S1024.Idx → Elt F .f32) (o : ℕ) : sProp (MT nD τ sig (HIx 1) (Elt F) ℕ UU ℕ) :=
  iprop(((thr d L).loc cc0_scratch0 ↦[H]{fullShare} fi) ∗ ((thr d L).loc cc0_scratch1 ↦{fullShare} fb)
    ∗ ((thr d L).loc cc0_scratch2 ↦{fullShare} fa)
    ∗ ((thr d L).loc cc0_scratch3 ↦[H]{fullShare} mix o (fun j => at' fa (fi j)) f₃)
    ∗ ((thr d L).loc cc0_scratch4 ↦[H]{fullShare} mix o (fun j => at' fb (fi j)) f₄))

/-- One row: from the buffers filled below `o` to the buffers filled below `o + 16`. -/
theorem wp_row (hfi : ∀ j, (fi j).toNat < 1000) (H : Finset S1024.Idx) (f₃ f₄ : S1024.Idx → Elt F .f32) (o : ℕ)
    (h : o + 16 ≤ 1024) (hH : (rO o h).set ⊆ H) (k : Prog (TileEff F L) PUnit) (Q : PUnit → sProp 𝕄) :
    St d L fi fa fb H f₃ f₄ o
      ⊢ iprop((St d L fi fa fb H f₃ f₄ (o + 16) -∗ wp frame (wpE (defs₀ (F := F)) 𝒱₀ (thr d L) none) Set.univ k Q)
          -∗ wp frame (wpE (defs₀ (F := F)) 𝒱₀ (thr d L) none) Set.univ (row L sI sB sA sOA sOB o h k) Q) := by
  have hv : (sI.view.readAt (Elt F) (rO o h).toLoadRect fi) = words (F := F) fi o h := rfl
  have hlook : ∀ (f : S1000.Idx → Elt F .f32) (hb : ∀ a x, ((![words (F := F) fi o h] : Fin S1000.rank → IVec S16 32) a x).toNat < S1000.size a) (x : S16.Idx),
      loadIdx f ![words (F := F) fi o h] hb x = at' f (fi ((rO o h).emb x)) := by
    intro f hb x
    refine congrArg f (funext fun a => Fin.ext ?_)
    match a with | 0 => exact (Nat.mod_eq_of_lt (hfi _)).symm
  have hA : (sA.access (Rect.whole S1000)).read (Elt F) fa = fa := Memref.read_access_whole (Elt F) cc0_scratch2 fa
  have hB : (sB.access (Rect.whole S1000)).read (Elt F) fb = fb := Memref.read_access_whole (Elt F) cc0_scratch1 fb
  have hlookA : ∀ (hb : ∀ a x, ((![words (F := F) fi o h] : Fin S1000.rank → IVec S16 32) a x).toNat < S1000.size a) (x : S16.Idx),
      loadIdx ((sA.access (Rect.whole S1000)).read (Elt F) fa) ![words (F := F) fi o h] hb x = at' fa (fi ((rO o h).emb x)) := by
    rw [hA]; exact hlook fa
  have hlookB : ∀ (hb : ∀ a x, ((![words (F := F) fi o h] : Fin S1000.rank → IVec S16 32) a x).toNat < S1000.size a) (x : S16.Idx),
      loadIdx ((sB.access (Rect.whole S1000)).read (Elt F) fb) ![words (F := F) fi o h] hb x = at' fb (fi ((rO o h).emb x)) := by
    rw [hB]; exact hlook fb
  have hI : (rO o h).set.map (Function.Embedding.refl _) ⊆ H := by rw [Finset.map_refl]; exact hH
  have hO : (sOA.access (rO o h)).setOn Finset.univ ⊆ H := by
    rw [View.setOn_univ]; exact (View.set_slice_whole cc0_scratch3 (rO o h)).le.trans hH
  iintro ⟨HI, HB, HA, H3, H4⟩ Hk
  unfold row
  iapply wp_load 𝒱₀ (thr d L) none Set.univ (m := sI) (S := H) (hI) $$ HI
  iintro HI
  rw [hv, wp_assume_of _ _ _ _ (chk_words hfi o h)]
  iapply SparseCore.wp_vectorLoadIdx 𝒱₀ (thr d L) none Set.univ (base := sA) (S := Finset.univ) (q := fullShare) (Finset.subset_univ _) $$ HA
  iintro HA
  iapply wp_load 𝒱₀ (thr d L) none Set.univ (m := sOA) (S := H) hI $$ H3
  iintro H3
  iapply wp_store 𝒱₀ (thr d L) none Set.univ (m := sOA) (r := rO o h) (S := H) hO $$ H3
  iintro H3
  iapply SparseCore.wp_vectorLoadIdx 𝒱₀ (thr d L) none Set.univ (base := sB) (S := Finset.univ) (q := fullShare) (Finset.subset_univ _) $$ HB
  iintro HB
  iapply wp_load 𝒱₀ (thr d L) none Set.univ (m := sOB) (S := H) hI $$ H4
  iintro H4
  iapply wp_store 𝒱₀ (thr d L) none Set.univ (m := sOB) (r := rO o h) (S := H) hO $$ H4
  iintro H4
  iapply Hk
  isplitl [HI]; · iexact HI
  isplitl [HB]; · iexact HB
  isplitl [HA]; · iexact HA
  isplitl [H3]
  · rw [mix_write_A o h _ f₃ _ (hlookA _)]
    iexact H3
  · rw [mix_write_B o h _ f₄ _ (hlookB _)]
    iexact H4

/-- A run of `n` rows: from the buffers filled below `o` to the buffers filled below `o + 16 n`. -/
theorem wp_rows (hfi : ∀ j, (fi j).toNat < 1000) (H : Finset S1024.Idx) (f₃ f₄ : S1024.Idx → Elt F .f32) (n : ℕ) :
    ∀ (o : ℕ) (h : o + 16 * n ≤ 1024) (hH : ∀ j : S1024.Idx, o ≤ (j 0).val → (j 0).val < o + 16 * n → j ∈ H)
      (k : Prog (TileEff F L) PUnit) (Q : PUnit → sProp 𝕄),
      St d L fi fa fb H f₃ f₄ o
        ⊢ iprop((St d L fi fa fb H f₃ f₄ (o + 16 * n) -∗ wp frame (wpE (defs₀ (F := F)) 𝒱₀ (thr d L) none) Set.univ k Q)
            -∗ wp frame (wpE (defs₀ (F := F)) 𝒱₀ (thr d L) none) Set.univ (rows L sI sB sA sOA sOB n o h k) Q) := by
  induction n with
  | zero =>
    intro o h hH k Q
    iintro HS Hk
    iapply Hk
    iexact HS
  | succ n ih =>
    intro o h hH k Q
    have e : o + 16 * (n + 1) = o + 16 + 16 * n := by omega
    rw [e]
    unfold rows
    iintro HS Hk
    iapply wp_row d L fi fa fb hfi H f₃ f₄ o _ (fun j hj => hH j (mem_rO.mp hj).1 (by have := (mem_rO.mp hj).2; omega)) $$ HS
    iintro HS
    iapply ih (o + 16) _ (fun j h1 h2 => hH j (by omega) (by omega)) $$ HS
    iexact Hk

end Row

end Cert.Proof.Gather

end

end
-- ==== Proof.Tile.lean ====
/-
  One tile's task: its thousand and twenty-four indices and both tables copied in, the two halves of its rows gathered
  and copied out. The four semaphores' transfers are four batches, each delivering what it copied at its final value.
-/
module

public import proofs.«01_k».proof.Proof.Row

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

abbrev tLoc (d : Dev nD) : Loc nD τ sig := (SparseCore.T d).loc main_arg0
abbrev bLoc (d : Dev nD) : Loc nD τ sig := (SparseCore.T d).loc main_arg1
abbrev aLoc (d : Dev nD) : Loc nD τ sig := (SparseCore.T d).loc main_arg2
abbrev oaLoc (d : Dev nD) : Loc nD τ sig := (SparseCore.T d).loc main_v0_0
abbrev obLoc (d : Dev nD) : Loc nD τ sig := (SparseCore.T d).loc main_v0_1

abbrev tV : Memref sig .scVector .hbm S16384 .i32 := Memref.whole main_arg0_scv
abbrev bV : Memref sig .scVector .hbm S1000 .f32 := Memref.whole main_arg1_scv
abbrev aV : Memref sig .scVector .hbm S1000 .f32 := Memref.whole main_arg2_scv
abbrev oaV : Memref sig .scVector .hbm S16384 .f32 := Memref.whole main_v0_0_scv
abbrev obV : Memref sig .scVector .hbm S16384 .f32 := Memref.whole main_v0_1_scv

/-! ## The parts -/

/-- The grid's second axis is the sixteen subcores. -/
theorem bound_one : grid0.bound 1 = 16 := rfl
/-- The tile's number among the sixteen. -/
abbrev jL (L : grid0.Coords) : Fin 16 := Fin.cast bound_one (L 1)

/-- The words of an array of 16384 that tile `i` handles. -/
def blk (i : Fin 16) : Finset S16384.Idx :=
  Finset.univ.filter fun j => 1024 * i.val ≤ (j 0).val ∧ (j 0).val < 1024 * i.val + 1024

/-- A word is tile `i`'s when it is among the 1024 from `1024 * i`. -/
theorem mem_blk {i : Fin 16} {j : S16384.Idx} : j ∈ blk i ↔ 1024 * i.val ≤ (j 0).val ∧ (j 0).val < 1024 * i.val + 1024 := by
  simp [blk]

abbrev rLo : Rect S1024 := Rect.unit (s := S1024) ![0] S512.size inb_S1024_S512_0
abbrev rHi : Rect S1024 := Rect.unit (s := S1024) ![512] S512.size inb_S1024_S512_512
abbrev rGlo (L : grid0.Coords) : Rect S16384 := Rect.unit (s := S16384) (k0_off1 L) S512.size (k0_off1_inb L)
abbrev rGhi (L : grid0.Coords) : Rect S16384 := Rect.unit (s := S16384) (k0_off2 L) S512.size (k0_off2_inb L)

/-- The lower half of a tile's buffer is its words below 512. -/
theorem mem_rLo {j : S1024.Idx} : j ∈ rLo.set ↔ (j 0).val < 512 := by
  refine Rect.mem_set_unit.trans ⟨fun hj => ?_, fun hj a => ?_⟩
  · have := (hj 0).2; exact (by simpa using this)
  · match a with | 0 => exact ⟨Nat.zero_le _, by simpa using hj⟩

/-- The upper half of a tile's buffer is its words from 512. -/
theorem mem_rHi {j : S1024.Idx} : j ∈ rHi.set ↔ 512 ≤ (j 0).val := by
  refine Rect.mem_set_unit.trans ⟨fun hj => (hj 0).1, fun hj a => ?_⟩
  match a with | 0 => exact ⟨hj, (j 0).isLt⟩

/-- The first 512 of a tile's words, in the whole array. -/
theorem mem_rGlo {L : grid0.Coords} {j : S16384.Idx} :
    j ∈ (rGlo L).set ↔ 1024 * (L 1).val ≤ (j 0).val ∧ (j 0).val < 1024 * (L 1).val + 512 := by
  refine Rect.mem_set_unit.trans ?_
  rw [k0_off1_eq]
  refine ⟨fun hj => hj 0, fun hj a => ?_⟩
  match a with | 0 => exact hj

/-- The last 512 of a tile's words, in the whole array. -/
theorem mem_rGhi {L : grid0.Coords} {j : S16384.Idx} :
    j ∈ (rGhi L).set ↔ 1024 * (L 1).val + 512 ≤ (j 0).val ∧ (j 0).val < 1024 * (L 1).val + 512 + 512 := by
  refine Rect.mem_set_unit.trans ?_
  rw [k0_off2_eq]
  refine ⟨fun hj => hj 0, fun hj a => ?_⟩
  match a with | 0 => exact hj

/-- The two halves make a tile's buffer. -/
theorem halves : rLo.set ∪ rHi.set = (Finset.univ : Finset S1024.Idx) := by
  ext j
  simp only [Finset.mem_union, mem_rLo, mem_rHi, Finset.mem_univ, iff_true]
  omega
/-- The two halves of a tile's buffer share no word. -/
theorem halves_disjoint : Disjoint rLo.set rHi.set :=
  Finset.disjoint_left.mpr fun j h1 h2 => by rw [mem_rLo] at h1; rw [mem_rHi] at h2; omega

/-- The two halves make a tile's words of the whole array. -/
theorem blk_halves (L : grid0.Coords) : (rGlo L).set ∪ (rGhi L).set = blk (jL L) := by
  ext j
  simp only [Finset.mem_union, mem_rGlo, mem_rGhi, mem_blk, jL, Fin.val_cast]
  omega
/-- The two halves of a tile's words share no word. -/
theorem blk_halves_disjoint (L : grid0.Coords) : Disjoint (rGlo L).set (rGhi L).set :=
  Finset.disjoint_left.mpr fun j h1 h2 => by rw [mem_rGlo] at h1; rw [mem_rGhi] at h2; omega

/-- Where the tile's word `j` sits in an array of 16384. -/
def place (L : grid0.Coords) (j : S1024.Idx) : S16384.Idx := fun a => match a with
  | 0 => ⟨1024 * (L 1).val + (j 0).val, by have h1 : (L 1).val < 16 := (L 1).isLt; have h2 : (j 0).val < 1024 := (j 0).isLt; show _ < 16384; omega⟩

/-- A word of the buffer's lower half stands for the word at the same offset in the first 512. -/
theorem place_lo (L : grid0.Coords) (x : S512.Idx) : place L (rLo.emb x) = (rGlo L).emb x := by
  funext a
  match a with
  | 0 =>
    apply Fin.ext
    have h1 : ((rLo.emb x) 0 : ℕ) = 0 + 1 * (x 0 : ℕ) := Rect.emb_apply ..
    have h2 : (((rGlo L).emb x) 0 : ℕ) = k0_off1 L 0 + 1 * (x 0 : ℕ) := Rect.emb_apply ..
    rw [k0_off1_eq] at h2
    show 1024 * (L 1).val + ((rLo.emb x) 0 : ℕ) = _
    rw [h1, h2]; simp

/-- A word of the buffer's upper half stands for the word at the same offset in the last 512. -/
theorem place_hi (L : grid0.Coords) (x : S512.Idx) : place L (rHi.emb x) = (rGhi L).emb x := by
  funext a
  match a with
  | 0 =>
    apply Fin.ext
    have h1 : ((rHi.emb x) 0 : ℕ) = 512 + 1 * (x 0 : ℕ) := Rect.emb_apply ..
    have h2 : (((rGhi L).emb x) 0 : ℕ) = k0_off2 L 0 + 1 * (x 0 : ℕ) := Rect.emb_apply ..
    rw [k0_off2_eq] at h2
    show 1024 * (L 1).val + ((rHi.emb x) 0 : ℕ) = _
    rw [h1, h2]; simp; omega

/-! ## What a copy lands -/

/-- Rewriting part `r` of buffer `b` of words read off a function `g` makes the buffer `g` there. -/
theorem write_part {κ : Kind} (b : Ref sig κ) (r : Rect b.ty.shape) (g f : b.ty.Contents (Elt F)) (w : r.shape.Idx → Elt F b.ty.elt)
    (hw : ∀ x, w x = g (r.emb x)) : ∀ i ∈ r.set, ((View.whole b).slice r).write (Elt F) f w Finset.univ i = g i := by
  intro i hi
  obtain ⟨x, rfl⟩ := LoadRect.exists_idx_of_mem _ hi
  refine (View.write_emb_of_mem (v := (View.whole b).slice r) f w (Finset.mem_univ x)).trans ?_
  exact (cast_eq _ _).trans (hw x)

/-! ## The values -/

variable (m : (ℓ : Loc nD τ sig) → Buf (Elt F) ℓ)

/-- Every word of the index array is below 1000. -/
def PreOK : Prop := ∀ (d : Dev nD) (j : S16384.Idx), (m (tLoc d) j : BitVec 32).toNat < 1000

/-- The two results: each table's entries at the index array's words. -/
abbrev GA (d : Dev nD) : Buf (Elt F) (oaLoc d) := fun j => at' (m (aLoc d)) (m (tLoc d) j)
abbrev GB (d : Dev nD) : Buf (Elt F) (obLoc d) := fun j => at' (m (bLoc d)) (m (tLoc d) j)

variable (d : Dev nD) (L : grid0.Coords)

/-- The tile's indices, as its scratch holds them, and the rows it gathers. -/
abbrev fI : S1024.Idx → BitVec 32 := fun j => m (tLoc d) (place L j)
abbrev gA : S1024.Idx → Elt F .f32 := fun j => at' (m (aLoc d)) (fI m d L j)
abbrev gB : S1024.Idx → Elt F .f32 := fun j => at' (m (bLoc d)) (fI m d L j)

/-- The share of a table each tile reads it at. -/
abbrev qT (i : Fin 16) : PosShare TreeShare := Transfers.dealOf fullShare Finset.univ i

/-! ## The deliveries -/

/-- What the first half of the indices' copy brings: those words in the tile's buffer, and the array's words it read. -/
def DI1 : Fin 1 → sProp 𝕄 := fun _ =>
  iprop(((thr d L).loc cc0_scratch0 ↦[rLo.set]{fullShare} fI m d L) ∗ (tLoc d ↦[(rGlo L).set]{fullShare} m (tLoc d)))
/-- What the second half of the indices' copy brings. -/
def DI2 : Fin 1 → sProp 𝕄 := fun _ =>
  iprop(((thr d L).loc cc0_scratch0 ↦[rHi.set]{fullShare} fI m d L) ∗ (tLoc d ↦[(rGhi L).set]{fullShare} m (tLoc d)))
/-- What the two tables' copies bring: the table in the tile's buffer, and the share of the table it read. -/
def DT : Fin 2 → sProp 𝕄
  | 0 => iprop(((thr d L).loc cc0_scratch2 ↦{fullShare} m (aLoc d)) ∗ (aLoc d ↦{qT (jL L)} m (aLoc d)))
  | 1 => iprop(((thr d L).loc cc0_scratch1 ↦{fullShare} m (bLoc d)) ∗ (bLoc d ↦{qT (jL L)} m (bLoc d)))
/-- What the four copies out bring: a half of a result gathered, and the buffer's half it read. -/
def DO : Fin 4 → sProp 𝕄
  | 0 => iprop((oaLoc d ↦[(rGlo L).set]{fullShare} GA m d) ∗ ((thr d L).loc cc0_scratch3 ↦[rLo.set]{fullShare} gA m d L))
  | 1 => iprop((obLoc d ↦[(rGlo L).set]{fullShare} GB m d) ∗ ((thr d L).loc cc0_scratch4 ↦[rLo.set]{fullShare} gB m d L))
  | 2 => iprop((oaLoc d ↦[(rGhi L).set]{fullShare} GA m d) ∗ ((thr d L).loc cc0_scratch3 ↦[rHi.set]{fullShare} gA m d L))
  | 3 => iprop((obLoc d ↦[(rGhi L).set]{fullShare} GB m d) ∗ ((thr d L).loc cc0_scratch4 ↦[rHi.set]{fullShare} gB m d L))

/-- What the first index copy brings may be kept in an invariant. -/
instance DI1_storable (t : Fin 1) : BI.Storable (upEmb : UEmb _ 𝕄) (DI1 m d L t) := by unfold DI1; infer_instance
/-- What the second index copy brings may be kept in an invariant. -/
instance DI2_storable (t : Fin 1) : BI.Storable (upEmb : UEmb _ 𝕄) (DI2 m d L t) := by unfold DI2; infer_instance
/-- What a table's copy brings may be kept in an invariant. -/
instance DT_storable (t : Fin 2) : BI.Storable (upEmb : UEmb _ 𝕄) (DT m d L t) := by
  match t with
  | 0 => unfold DT; infer_instance
  | 1 => unfold DT; infer_instance
/-- What a copy out brings may be kept in an invariant. -/
instance DO_storable (t : Fin 4) : BI.Storable (upEmb : UEmb _ 𝕄) (DO m d L t) := by
  match t with
  | 0 => unfold DO; infer_instance
  | 1 => unfold DO; infer_instance
  | 2 => unfold DO; infer_instance
  | 3 => unfold DO; infer_instance

/-! ## The batches' amounts -/

/-- The credit of half the indices' copy. -/
def NI : ℕ := (lo sI).view.dmaCredit
/-- The credit of a table's copy. -/
def NT : ℕ := sA.view.dmaCredit
/-- The credit of a copy out. -/
def NO (L : grid0.Coords) : ℕ := (glo L oaV).view.dmaCredit
/-- An index copy's credit is positive. -/
theorem NI_pos : 0 < NI := View.dmaCredit_pos _ (by decide)
/-- A table copy's credit is positive. -/
theorem NT_pos : 0 < NT := View.dmaCredit_pos _ (by decide)
/-- A copy out's credit is positive. -/
theorem NO_pos : 0 < NO L := View.dmaCredit_pos _ (by decide)
/-- Both index copies have one credit. -/
theorem NI_hi : (hi sI).view.dmaCredit = NI := rfl
/-- Both tables' copies have one credit. -/
theorem NT_B : sB.view.dmaCredit = NT := rfl
/-- The second result's first copy has the same credit. -/
theorem NO_lo_B : (glo L obV).view.dmaCredit = NO L := rfl
/-- The first result's second copy has the same credit. -/
theorem NO_hi_A : (ghi L oaV).view.dmaCredit = NO L := rfl
/-- The second result's second copy has the same credit. -/
theorem NO_hi_B : (ghi L obV).view.dmaCredit = NO L := rfl

/-! ## The tile's own semaphores and scratch -/

abbrev cell5 : GSem nD τ sig := (thr d L, .dma cc0_scratch5.sem)
abbrev cell6 : GSem nD τ sig := (thr d L, .dma cc0_scratch6.sem)
abbrev cell7 : GSem nD τ sig := (thr d L, .dma cc0_scratch7.sem)
abbrev cell8 : GSem nD τ sig := (thr d L, .dma cc0_scratch8.sem)

/-- The cells' names are distinct. -/
theorem cell_ne {s s' : SemLoc sig} (h : s ≠ s') : ((thr d L, s) : GSem nD τ sig) ≠ (thr d L, s') := fun e => h (Prod.mk.inj e).2

/-- A scoped semaphore of the tile is among the tile's own. -/
theorem mem_cell {s : SemLoc sig} (h : s.isScoped .scVector = true) : ((thr d L, s) : GSem nD τ sig) ∈ ownCells (thr d L) :=
  mem_ownCells.mpr ⟨rfl, h⟩

/-- The tile's own semaphores at zero are its four copies' semaphores at zero, and the rest. -/
theorem ownSems0_V :
    (ownSems0 (thr d L) : sProp 𝕄)
      = iprop(semVal (cell5 d L) 0 ∗ semVal (cell6 d L) 0 ∗ semVal (cell7 d L) 0 ∗ semVal (cell8 d L) 0
          ∗ bigSep (((((ownCells (thr d L)).erase (cell5 d L)).erase (cell6 d L)).erase (cell7 d L)).erase (cell8 d L))
              fun g => semVal g 0) := by
  unfold SparseCore.Cfg.ownSems0
  rw [SparseCore.bigSep_erase' (mem_cell d L (s := .dma cc0_scratch5.sem) (by decide)),
    SparseCore.bigSep_erase' (Finset.mem_erase.mpr ⟨cell_ne d L (by decide), mem_cell d L (s := .dma cc0_scratch6.sem) (by decide)⟩),
    SparseCore.bigSep_erase' (Finset.mem_erase.mpr ⟨cell_ne d L (by decide), Finset.mem_erase.mpr ⟨cell_ne d L (by decide),
      mem_cell d L (s := .dma cc0_scratch7.sem) (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L (s := .dma cc0_scratch8.sem) (by decide)⟩⟩⟩)]

abbrev dref (b : Ref sig .scVector) : DevRef τ sig := (Proc.scVector (cV L) (jV L)).devRef b

/-- Two different buffers of a tile are different buffers of the device. -/
theorem dref_ne {b b' : Ref sig .scVector} (h : b ≠ b') : dref L b ≠ dref L b' := fun e => h (Proc.devRef_injective _ e)

/-- The five scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (dref L cc0_scratch0)).erase (dref L cc0_scratch1)).erase
              (dref L cc0_scratch2)).erase (dref L cc0_scratch3)).erase (dref L cc0_scratch4))
              fun b => iprop(∃ f, ((d, b) : Loc nD τ sig) ↦{fullShare} f)) := by
  have own (b : Ref sig .scVector) (h : (dref L b).owner = _) : dref L b ∈ ownRefs (τ := τ) (.scVector (cV L) (jV L)) :=
    SparseCore.Cfg.mem_ownRefs_of_owner (p := Proc.scVector (cV L) (jV L)) h
  unfold SparseCore.Cfg.ownBufs
  refine (SparseCore.bigSep_erase' (own cc0_scratch0 rfl)).trans ?_
  rw [SparseCore.bigSep_erase' (Finset.mem_erase.mpr ⟨dref_ne L (by decide), own cc0_scratch1 rfl⟩),
    SparseCore.bigSep_erase' (Finset.mem_erase.mpr ⟨dref_ne L (by decide), Finset.mem_erase.mpr ⟨dref_ne L (by decide), own cc0_scratch2 rfl⟩⟩),
    SparseCore.bigSep_erase' (Finset.mem_erase.mpr ⟨dref_ne L (by decide), Finset.mem_erase.mpr ⟨dref_ne L (by decide),
      Finset.mem_erase.mpr ⟨dref_ne L (by decide), own cc0_scratch3 rfl⟩⟩⟩),
    SparseCore.bigSep_erase' (Finset.mem_erase.mpr ⟨dref_ne L (by decide), Finset.mem_erase.mpr ⟨dref_ne L (by decide),
      Finset.mem_erase.mpr ⟨dref_ne L (by decide), Finset.mem_erase.mpr ⟨dref_ne L (by decide), own cc0_scratch4 rfl⟩⟩⟩⟩)]

/-! ## What each transfer lands is its delivery -/

/-- Holding a part through its view is holding its words. -/
theorem pts_part (b : Ref sig .scVector) (r : Rect b.ty.shape) (q : PosShare TreeShare) (f : Buf (Elt F) ((thr d L).loc b)) :
    ((((View.whole b).slice r).loc (thr d L)) ↦[((View.whole b).slice r).set]{q} f : sProp 𝕄) = (thr d L).loc b ↦[r.set]{q} f := by
  rw [View.set_slice_whole]

/-- Holding a buffer through its whole view is holding it. -/
theorem pts_all (b : Ref sig .scVector) (q : PosShare TreeShare) (f : Buf (Elt F) ((thr d L).loc b)) :
    (((View.whole b).loc (thr d L)) ↦[(View.whole b).set]{q} f : sProp 𝕄) = (thr d L).loc b ↦{q} f := by
  rw [View.set_whole]

/-- Two disjoint parts that cover a buffer. -/
theorem pts_two {ℓ : Loc nD τ sig} {A B C : Finset (Idx ℓ)} (h : A ∪ B = C) (hd : Disjoint A B) (q : PosShare TreeShare) (f : Buf (Elt F) ℓ) :
    (ℓ ↦[C]{q} f : sProp 𝕄) = iprop((ℓ ↦[A]{q} f) ∗ ℓ ↦[B]{q} f) := by
  subst h
  exact BI.Entails.antisymm (pointsTo_union hd).1 (pointsTo_union hd).2

/-- The first index copy's landing is what it was to bring. -/
theorem land_I1 (f : Buf (Elt F) ((thr d L).loc cc0_scratch0)) :
    iprop(((thr d L).loc cc0_scratch0 ↦[rLo.set]{fullShare} (lo sI).view.write (Elt F) f ((glo L tV).view.read (Elt F) (m (tLoc d))) Finset.univ)
      ∗ ((glo L tV).view.loc (thr d L) ↦[(glo L tV).view.set]{fullShare} m (tLoc d))) ⊢ (DI1 m d L 0 : sProp 𝕄) := by
  unfold DI1
  refine BI.sep_mono (Entails.of_eq (pointsTo_congr (write_part cc0_scratch0 rLo (fI m d L) f _ fun x => ?_))) (Entails.of_eq (pts_part d L main_arg0_scv (rGlo L) _ _))
  exact (cast_eq _ _).trans (congrArg (m (tLoc d)) (place_lo L x).symm)

/-- The second index copy's landing is what it was to bring. -/
theorem land_I2 (f : Buf (Elt F) ((thr d L).loc cc0_scratch0)) :
    iprop(((thr d L).loc cc0_scratch0 ↦[rHi.set]{fullShare} (hi sI).view.write (Elt F) f ((ghi L tV).view.read (Elt F) (m (tLoc d))) Finset.univ)
      ∗ ((ghi L tV).view.loc (thr d L) ↦[(ghi L tV).view.set]{fullShare} m (tLoc d))) ⊢ (DI2 m d L 0 : sProp 𝕄) := by
  unfold DI2
  refine BI.sep_mono (Entails.of_eq (pointsTo_congr (write_part cc0_scratch0 rHi (fI m d L) f _ fun x => ?_))) (Entails.of_eq (pts_part d L main_arg0_scv (rGhi L) _ _))
  exact (cast_eq _ _).trans (congrArg (m (tLoc d)) (place_hi L x).symm)

/-- The alpha table's landing is what its copy was to bring. -/
theorem land_TA (f : Buf (Elt F) ((thr d L).loc cc0_scratch2)) :
    iprop(((thr d L).loc cc0_scratch2 ↦{fullShare} sA.view.write (Elt F) f (aV.view.read (Elt F) (m (aLoc d))) Finset.univ)
      ∗ (aV.view.loc (thr d L) ↦[aV.view.set]{qT (jL L)} m (aLoc d))) ⊢ (DT m d L 0 : sProp 𝕄) := by
  unfold DT
  exact BI.sep_mono (Entails.of_eq (pointsTo_congr fun i _ => congrFun (View.write_whole_univ _ _ _) i)) (Entails.of_eq (pts_all d L main_arg2_scv _ _))

/-- The beta table's landing is what its copy was to bring. -/
theorem land_TB (f : Buf (Elt F) ((thr d L).loc cc0_scratch1)) :
    iprop(((thr d L).loc cc0_scratch1 ↦{fullShare} sB.view.write (Elt F) f (bV.view.read (Elt F) (m (bLoc d))) Finset.univ)
      ∗ (bV.view.loc (thr d L) ↦[bV.view.set]{qT (jL L)} m (bLoc d))) ⊢ (DT m d L 1 : sProp 𝕄) := by
  unfold DT
  exact BI.sep_mono (Entails.of_eq (pointsTo_congr fun i _ => congrFun (View.write_whole_univ _ _ _) i)) (Entails.of_eq (pts_all d L main_arg1_scv _ _))

/-- The first copy of alpha's results lands as the gathered first half. -/
theorem land_O0 (f : Buf (Elt F) (oaLoc d)) :
    iprop((oaLoc d ↦[(rGlo L).set]{fullShare} (glo L oaV).view.write (Elt F) f ((lo sOA).view.read (Elt F) (gA m d L)) Finset.univ)
      ∗ ((lo sOA).view.loc (thr d L) ↦[(lo sOA).view.set]{fullShare} gA m d L)) ⊢ (DO m d L 0 : sProp 𝕄) := by
  unfold DO
  refine BI.sep_mono (Entails.of_eq (pointsTo_congr (write_part main_v0_0_scv (rGlo L) (GA m d) f _ fun x => ?_))) (Entails.of_eq (pts_part d L cc0_scratch3 rLo _ _))
  exact (cast_eq _ _).trans (congrArg (GA m d) (place_lo L x))

/-- The first copy of beta's results lands as the gathered first half. -/
theorem land_O1 (f : Buf (Elt F) (obLoc d)) :
    iprop((obLoc d ↦[(rGlo L).set]{fullShare} (glo L obV).view.write (Elt F) f ((lo sOB).view.read (Elt F) (gB m d L)) Finset.univ)
      ∗ ((lo sOB).view.loc (thr d L) ↦[(lo sOB).view.set]{fullShare} gB m d L)) ⊢ (DO m d L 1 : sProp 𝕄) := by
  unfold DO
  refine BI.sep_mono (Entails.of_eq (pointsTo_congr (write_part main_v0_1_scv (rGlo L) (GB m d) f _ fun x => ?_))) (Entails.of_eq (pts_part d L cc0_scratch4 rLo _ _))
  exact (cast_eq _ _).trans (congrArg (GB m d) (place_lo L x))

/-- The second copy of alpha's results lands as the gathered second half. -/
theorem land_O2 (f : Buf (Elt F) (oaLoc d)) :
    iprop((oaLoc d ↦[(rGhi L).set]{fullShare} (ghi L oaV).view.write (Elt F) f ((hi sOA).view.read (Elt F) (gA m d L)) Finset.univ)
      ∗ ((hi sOA).view.loc (thr d L) ↦[(hi sOA).view.set]{fullShare} gA m d L)) ⊢ (DO m d L 2 : sProp 𝕄) := by
  unfold DO
  refine BI.sep_mono (Entails.of_eq (pointsTo_congr (write_part main_v0_0_scv (rGhi L) (GA m d) f _ fun x => ?_))) (Entails.of_eq (pts_part d L cc0_scratch3 rHi _ _))
  exact (cast_eq _ _).trans (congrArg (GA m d) (place_hi L x))

/-- The second copy of beta's results lands as the gathered second half. -/
theorem land_O3 (f : Buf (Elt F) (obLoc d)) :
    iprop((obLoc d ↦[(rGhi L).set]{fullShare} (ghi L obV).view.write (Elt F) f ((hi sOB).view.read (Elt F) (gB m d L)) Finset.univ)
      ∗ ((hi sOB).view.loc (thr d L) ↦[(hi sOB).view.set]{fullShare} gB m d L)) ⊢ (DO m d L 3 : sProp 𝕄) := by
  unfold DO
  refine BI.sep_mono (Entails.of_eq (pointsTo_congr (write_part main_v0_1_scv (rGhi L) (GB m d) f _ fun x => ?_))) (Entails.of_eq (pts_part d L cc0_scratch4 rHi _ _))
  exact (cast_eq _ _).trans (congrArg (GB m d) (place_hi L x))

/-- The two deliveries of a batch of two, and the four of a batch of four. -/
theorem deal2 (D : Fin 2 → sProp 𝕄) : bigSep Finset.univ D = iprop(D 0 ∗ D 1) := by
  rw [show (Finset.univ : Finset (Fin 2)) = insert 0 {1} by decide, BI.bigSep_insert (by decide), BI.bigSep_singleton]; rfl
/-- Four parts, one by one. -/
theorem deal4 (D : Fin 4 → sProp 𝕄) : bigSep Finset.univ D = iprop(D 0 ∗ D 1 ∗ D 2 ∗ D 3) := by
  rw [show (Finset.univ : Finset (Fin 4)) = insert 0 (insert 1 (insert 2 {3})) by decide, BI.bigSep_insert (by decide), BI.bigSep_insert (by decide),
    BI.bigSep_insert (by decide), BI.bigSep_singleton]; rfl

/-! ## The row buffers before, between and after the two runs of rows -/

/-- With no word written the buffer is as it was. -/
theorem mix_zero (g f : S1024.Idx → Elt F .f32) : mix 0 g f = f := funext fun j => if_neg (Nat.not_lt_zero _)
/-- With 512 words written the lower half is the gathered one. -/
theorem mix_lo (g f : S1024.Idx → Elt F .f32) : ∀ j ∈ rLo.set, mix 512 g f j = g j := fun j hj => if_pos (mem_rLo.mp hj)
/-- With 512 words written the upper half is as it was. -/
theorem mix_hi (g f : S1024.Idx → Elt F .f32) : ∀ j ∈ rHi.set, f j = mix 512 g f j :=
  fun j hj => (if_neg (Nat.not_lt.mpr (mem_rHi.mp hj))).symm
/-- With all 1024 words written the buffer is the gathered one. -/
theorem mix_all (g f : S1024.Idx → Elt F .f32) : mix 1024 g f = g := funext fun j => if_pos (j 0).isLt

end Cert.Proof.Gather

end

end
-- ==== Proof.Body.lean ====
/-
  One tile's task run: from its words, its shares of the tables, its scratch and its semaphores at zero to the same with
  its words of the results gathered.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

variable [FloatOps F]

/-- What a tile is given: its words of the index array and of the two results, and a share of each table. -/
abbrev goP (i : Fin 16) (fa : Buf (Elt F) (oaLoc d)) (fb : Buf (Elt F) (obLoc d)) : sProp 𝕄 :=
  iprop((tLoc d ↦[blk i]{fullShare} m (tLoc d)) ∗ (aLoc d ↦{qT i} m (aLoc d)) ∗ (bLoc d ↦{qT i} m (bLoc d))
    ∗ (oaLoc d ↦[blk i]{fullShare} fa) ∗ (obLoc d ↦[blk i]{fullShare} fb))

/-- One more wait recorded at no index of a handshake. -/
theorem recorded_insert (s : SemLoc sig) {W W' : Waits sig (HIx 1)} (h : ∀ p ∈ W', p ∈ W ∨ p.2 = none) :
    ∀ p ∈ insert (s, none) W', p ∈ W ∨ p.2 = none := by
  intro p hp
  rcases Finset.mem_insert.mp hp with rfl | hp
  · exact .inr rfl
  · exact h p hp

set_option maxHeartbeats 400000 in
/-- The task of tile `L 1` of device `d`: given its words and shares, it leaves its words of the results holding the
    tables' entries at its indices. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ (BI.emp : sProp 𝕄)
        ∗ goP m d (jL L) (m (oaLoc d)) (m (obLoc d))
        ∗ scopedBufs (thr d L) ∗ scopedSems0 (thr d L) ∗ owes (thr d L) O W)
      ⊢ wp frame (wpE (defs₀ (F := F)) 𝒱₀ (thr d L) none) Set.univ
          (cc0__gather_sc L tV (Memref.isWhole_whole _) bV (Memref.isWhole_whole _) aV (Memref.isWhole_whole _) oaV (Memref.isWhole_whole _)
            obV (Memref.isWhole_whole _) sI (Memref.isWhole_whole _) sB (Memref.isWhole_whole _) sA (Memref.isWhole_whole _)
            sOA (Memref.isWhole_whole _) sOB (Memref.isWhole_whole _) cc0_scratch5 cc0_scratch6 cc0_scratch7 cc0_scratch8)
          fun _ => iprop(goP m d (jL L) (GA m d) (GB m d) ∗ scopedBufs (thr d L) ∗ scopedSems0 (thr d L)
            ∗ ∃ W', ⌜∀ p ∈ W', p ∈ W ∨ p.2 = none⌝ ∗ owes (thr d L) O W') := by
  have hfi : ∀ j, (fI m d L j).toNat < 1000 := fun j => hpre d (place L j)
  rw [body_eq, (K (F := F)).scopedBufs_V hF d (cV L) (jV L), SparseCore.Cfg.scopedSems0_V (Val := Elt F) d (cV L) (jV L), ownSems0_V, ownBufs_V]
  unfold tileProg
  iintro ⟨#Hlv, -, ⟨Ht, Ha, Hb, Hoa, Hob⟩, ⟨⟨%f0, H0⟩, ⟨%f1, H1⟩, ⟨%f2, H2⟩, ⟨%f3, H3⟩, ⟨%f4, H4⟩, Hbufs⟩, ⟨Hs5, Hs6, Hs7, Hs8, Hsems⟩, HO⟩
  ihave Ht' := (Entails.of_eq (pts_two (F := F) (ℓ := tLoc d) (blk_halves L) (blk_halves_disjoint L) fullShare (m (tLoc d)))) $$ Ht
  icases Ht' with ⟨HtL, HtH⟩
  ihave Hoa' := (Entails.of_eq (pts_two (F := F) (ℓ := oaLoc d) (blk_halves L) (blk_halves_disjoint L) fullShare (m (oaLoc d)))) $$ Hoa
  icases Hoa' with ⟨HoaL, HoaH⟩
  ihave Hob' := (Entails.of_eq (pts_two (F := F) (ℓ := obLoc d) (blk_halves L) (blk_halves_disjoint L) fullShare (m (obLoc d)))) $$ Hob
  icases Hob' with ⟨HobL, HobH⟩
  ihave H0' := (Entails.of_eq (pts_two (F := F) (ℓ := (thr d L).loc cc0_scratch0) halves halves_disjoint fullShare f0)) $$ H0
  icases H0' with ⟨H0L, H0H⟩
  ihave H3' := (Entails.of_eq (pts_two (F := F) (ℓ := (thr d L).loc cc0_scratch3) halves halves_disjoint fullShare f3)) $$ H3
  icases H3' with ⟨H3L, H3H⟩
  ihave H4' := (Entails.of_eq (pts_two (F := F) (ℓ := (thr d L).loc cc0_scratch4) halves halves_disjoint fullShare f4)) $$ H4
  icases H4' with ⟨H4L, H4H⟩
  imod (Transfers.batch_alloc' EC (thr d L) none NI (DI1 m d L) (sm := .dma cc0_scratch5.sem) (E := Set.univ)) $$ Hs5 with B5
  imod (Transfers.batch_alloc' EC (thr d L) none NI (DI2 m d L) (sm := .dma cc0_scratch6.sem) (E := Set.univ)) $$ Hs6 with B6
  imod (Transfers.batch_alloc' EC (thr d L) none NT (DT m d L) (sm := .dma cc0_scratch7.sem) (E := Set.univ)) $$ Hs7 with B7
  imod (Transfers.batch_alloc' EC (thr d L) none (NO L) (DO m d L) (sm := .dma cc0_scratch8.sem) (E := Set.univ)) $$ Hs8 with B8
  -- the copies in, all four issued
  ihave HtL' := (Entails.of_eq (pts_part (F := F) d L main_arg0_scv (rGlo L) fullShare (m (tLoc d))).symm) $$ HtL
  iapply (Transfers.wp_dmaBatch EC 𝒱₀ (thr d L) none (via := .same) (sm := .dma cc0_scratch5.sem) (src := glo L tV) (dst := lo sI) (q := fullShare) (fs := m (tLoc d)) (Sd := rLo.set) (fd := f0)
      none NI rfl (View.set_slice_whole _ _).le (j := 0) (by decide) (Nat.zero_le _) (land_I1 m d L f0)) $$ [HtL' H0L B5]
  · isplitl [HtL']; · iexact HtL'
    isplitl [H0L]; · iexact H0L
    iexact B5
  iintro B5
  ihave Ha' := (Entails.of_eq (pts_all (F := F) d L main_arg2_scv _ (m (aLoc d))).symm) $$ Ha
  iapply (Transfers.wp_dmaBatch EC 𝒱₀ (thr d L) none (via := .same) (sm := .dma cc0_scratch7.sem) (src := aV) (dst := sA) (q := qT (jL L)) (fs := m (aLoc d)) (Sd := Finset.univ) (fd := f2)
      none NT rfl (Finset.subset_univ _) (j := 0) (by decide) (Nat.zero_le _) (land_TA m d L f2)) $$ [Ha' H2 B7]
  · isplitl [Ha']; · iexact Ha'
    isplitl [H2]; · iexact H2
    iexact B7
  iintro B7
  ihave Hb' := (Entails.of_eq (pts_all (F := F) d L main_arg1_scv _ (m (bLoc d))).symm) $$ Hb
  iapply (Transfers.wp_dmaBatch EC 𝒱₀ (thr d L) none (via := .same) (sm := .dma cc0_scratch7.sem) (src := bV) (dst := sB) (q := qT (jL L)) (fs := m (bLoc d)) (Sd := Finset.univ) (fd := f1)
      none NT NT_B (Finset.subset_univ _) (j := 1) (by decide) (Nat.zero_le _) (land_TB m d L f1)) $$ [Hb' H1 B7]
  · isplitl [Hb']; · iexact Hb'
    isplitl [H1]; · iexact H1
    iexact B7
  iintro B7
  ihave HtH' := (Entails.of_eq (pts_part (F := F) d L main_arg0_scv (rGhi L) fullShare (m (tLoc d))).symm) $$ HtH
  iapply (Transfers.wp_dmaBatch EC 𝒱₀ (thr d L) none (via := .same) (sm := .dma cc0_scratch6.sem) (src := ghi L tV) (dst := hi sI) (q := fullShare) (fs := m (tLoc d)) (Sd := rHi.set) (fd := f0)
      none NI NI_hi (View.set_slice_whole _ _).le (j := 0) (by decide) (Nat.zero_le _) (land_I2 m d L f0)) $$ [HtH' H0H B6]
  · isplitl [HtH']; · iexact HtH'
    isplitl [H0H]; · iexact H0H
    iexact B6
  iintro B6
  -- the first half of the indices and the tables have landed
  iapply (Transfers.wp_waitBatchLastO EC 𝒱₀ (thr d L) none (dstw := lo sI) none (N := NI) rfl NI_pos (D := DI1 m d L) (u := 0) (by omega) (O := O)) $$ [B5 HO]
  · isplitl [B5]; · iexact B5
    isplitl [HO]; · iexact HO
    iapply ((K (F := F)).mayWait_none (SemLoc.dma cc0_scratch5.sem) hO); iexact Hlv
  iintro ⟨HD, Hs5, HO⟩
  ihave HD' := (Entails.of_eq (bigSep_univ_of_subsingleton (0 : Fin 1))) $$ HD
  unfold DI1
  icases HD' with ⟨H0L, HtL⟩
  iapply (Transfers.wp_waitBatchO EC 𝒱₀ (thr d L) none (dstw := sA) none (N := NT) rfl (D := DT m d L) (u := 0) (by have := NT_pos; omega) (O := O)) $$ [B7 HO]
  · isplitl [B7]; · iexact B7
    isplitl [HO]; · iexact HO
    iapply ((K (F := F)).mayWait_none (SemLoc.dma cc0_scratch7.sem) hO); iexact Hlv
  iintro ⟨B7, HO⟩
  iapply (Transfers.wp_waitBatchLastO EC 𝒱₀ (thr d L) none (dstw := sB) none (N := NT) NT_B NT_pos (D := DT m d L) (u := 0 + NT) (by omega) (O := O)) $$ [B7 HO]
  · isplitl [B7]; · iexact B7
    isplitl [HO]; · iexact HO
    iapply ((K (F := F)).mayWait_none (SemLoc.dma cc0_scratch7.sem) hO); iexact Hlv
  iintro ⟨HD, Hs7, HO⟩
  ihave HD' := (Entails.of_eq (deal2 (F := F) (DT m d L))) $$ HD
  unfold DT
  icases HD' with ⟨⟨H2, Ha⟩, ⟨H1, Hb⟩⟩
  -- the first run of rows
  iapply (wp_rows d L (fI m d L) (m (aLoc d)) (m (bLoc d)) hfi rLo.set f3 f4 32 0 _ (fun j _ h => mem_rLo.mpr (by omega))) $$ [H0L H1 H2 H3L H4L]
  · isplitl [H0L]; · iexact H0L
    isplitl [H1]; · iexact H1
    isplitl [H2]; · iexact H2
    rw [mix_zero, mix_zero]
    isplitl [H3L]; · iexact H3L
    iexact H4L
  iintro ⟨H0L, H1, H2, H3L, H4L⟩
  ihave H3L := (Entails.of_eq (pointsTo_congr (ℓ := (thr d L).loc cc0_scratch3) (mix_lo (gA m d L) f3))) $$ H3L
  ihave H4L := (Entails.of_eq (pointsTo_congr (ℓ := (thr d L).loc cc0_scratch4) (mix_lo (gB m d L) f4))) $$ H4L
  -- its copies out
  ihave H3L' := (Entails.of_eq (pts_part (F := F) d L cc0_scratch3 rLo fullShare (gA m d L)).symm) $$ H3L
  iapply (Transfers.wp_dmaBatch EC 𝒱₀ (thr d L) none (via := .same) (sm := .dma cc0_scratch8.sem) (src := lo sOA) (dst := glo L oaV) (q := fullShare) (fs := gA m d L) (Sd := (rGlo L).set) (fd := m (oaLoc d))
      none (NO L) rfl (View.set_slice_whole _ _).le (j := 0) (by decide) (Nat.zero_le _) (land_O0 m d L _)) $$ [H3L' HoaL B8]
  · isplitl [H3L']; · iexact H3L'
    isplitl [HoaL]; · iexact HoaL
    iexact B8
  iintro B8
  ihave H4L' := (Entails.of_eq (pts_part (F := F) d L cc0_scratch4 rLo fullShare (gB m d L)).symm) $$ H4L
  iapply (Transfers.wp_dmaBatch EC 𝒱₀ (thr d L) none (via := .same) (sm := .dma cc0_scratch8.sem) (src := lo sOB) (dst := glo L obV) (q := fullShare) (fs := gB m d L) (Sd := (rGlo L).set) (fd := m (obLoc d))
      none (NO L) (NO_lo_B L) (View.set_slice_whole _ _).le (j := 1) (by decide) (Nat.zero_le _) (land_O1 m d L _)) $$ [H4L' HobL B8]
  · isplitl [H4L']; · iexact H4L'
    isplitl [HobL]; · iexact HobL
    iexact B8
  iintro B8
  -- the second half of the indices has landed
  iapply (Transfers.wp_waitBatchLastO EC 𝒱₀ (thr d L) none (dstw := hi sI) none (N := NI) NI_hi NI_pos (D := DI2 m d L) (u := 0) (by omega) (O := O)) $$ [B6 HO]
  · isplitl [B6]; · iexact B6
    isplitl [HO]; · iexact HO
    iapply ((K (F := F)).mayWait_none (SemLoc.dma cc0_scratch6.sem) hO); iexact Hlv
  iintro ⟨HD, Hs6, HO⟩
  ihave HD' := (Entails.of_eq (bigSep_univ_of_subsingleton (0 : Fin 1))) $$ HD
  unfold DI2
  icases HD' with ⟨H0H, HtH⟩
  -- the second run of rows
  ihave H3H := (Entails.of_eq (pointsTo_congr (ℓ := (thr d L).loc cc0_scratch3) (mix_hi (gA m d L) f3))) $$ H3H
  ihave H4H := (Entails.of_eq (pointsTo_congr (ℓ := (thr d L).loc cc0_scratch4) (mix_hi (gB m d L) f4))) $$ H4H
  iapply (wp_rows d L (fI m d L) (m (aLoc d)) (m (bLoc d)) hfi rHi.set f3 f4 32 512 _ (fun j h _ => mem_rHi.mpr h)) $$ [H0H H1 H2 H3H H4H]
  · isplitl [H0H]; · iexact H0H
    isplitl [H1]; · iexact H1
    isplitl [H2]; · iexact H2
    isplitl [H3H]; · iexact H3H
    iexact H4H
  iintro ⟨H0H, H1, H2, H3H, H4H⟩
  ihave H3H := (Entails.of_eq (pointsTo_congr (ℓ := (thr d L).loc cc0_scratch3) (I := rHi.set) fun j _ => congrFun (mix_all (gA m d L) f3) j)) $$ H3H
  ihave H4H := (Entails.of_eq (pointsTo_congr (ℓ := (thr d L).loc cc0_scratch4) (I := rHi.set) fun j _ => congrFun (mix_all (gB m d L) f4) j)) $$ H4H
  -- its copies out
  ihave H3H' := (Entails.of_eq (pts_part (F := F) d L cc0_scratch3 rHi fullShare (gA m d L)).symm) $$ H3H
  iapply (Transfers.wp_dmaBatch EC 𝒱₀ (thr d L) none (via := .same) (sm := .dma cc0_scratch8.sem) (src := hi sOA) (dst := ghi L oaV) (q := fullShare) (fs := gA m d L) (Sd := (rGhi L).set) (fd := m (oaLoc d))
      none (NO L) (NO_hi_A L) (View.set_slice_whole _ _).le (j := 2) (by decide) (Nat.zero_le _) (land_O2 m d L _)) $$ [H3H' HoaH B8]
  · isplitl [H3H']; · iexact H3H'
    isplitl [HoaH]; · iexact HoaH
    iexact B8
  iintro B8
  ihave H4H' := (Entails.of_eq (pts_part (F := F) d L cc0_scratch4 rHi fullShare (gB m d L)).symm) $$ H4H
  iapply (Transfers.wp_dmaBatch EC 𝒱₀ (thr d L) none (via := .same) (sm := .dma cc0_scratch8.sem) (src := hi sOB) (dst := ghi L obV) (q := fullShare) (fs := gB m d L) (Sd := (rGhi L).set) (fd := m (obLoc d))
      none (NO L) (NO_hi_B L) (View.set_slice_whole _ _).le (j := 3) (by decide) (Nat.zero_le _) (land_O3 m d L _)) $$ [H4H' HobH B8]
  · isplitl [H4H']; · iexact H4H'
    isplitl [HobH]; · iexact HobH
    iexact B8
  iintro B8
  -- all four have landed
  iapply (Transfers.wp_waitBatchO EC 𝒱₀ (thr d L) none (dstw := glo L oaV) none (N := NO L) rfl (D := DO m d L) (u := 0) (by have := NO_pos L; omega) (O := O)) $$ [B8 HO]
  · isplitl [B8]; · iexact B8
    isplitl [HO]; · iexact HO
    iapply ((K (F := F)).mayWait_none (SemLoc.dma cc0_scratch8.sem) hO); iexact Hlv
  iintro ⟨B8, HO⟩
  iapply (Transfers.wp_waitBatchO EC 𝒱₀ (thr d L) none (dstw := glo L obV) none (N := NO L) (NO_lo_B L) (D := DO m d L) (u := 0 + NO L) (by have := NO_pos L; omega) (O := O)) $$ [B8 HO]
  · isplitl [B8]; · iexact B8
    isplitl [HO]; · iexact HO
    iapply ((K (F := F)).mayWait_none (SemLoc.dma cc0_scratch8.sem) hO); iexact Hlv
  iintro ⟨B8, HO⟩
  iapply (Transfers.wp_waitBatchO EC 𝒱₀ (thr d L) none (dstw := ghi L oaV) none (N := NO L) (NO_hi_A L) (D := DO m d L) (u := 0 + NO L + NO L) (by have := NO_pos L; omega) (O := O)) $$ [B8 HO]
  · isplitl [B8]; · iexact B8
    isplitl [HO]; · iexact HO
    iapply ((K (F := F)).mayWait_none (SemLoc.dma cc0_scratch8.sem) hO); iexact Hlv
  iintro ⟨B8, HO⟩
  iapply (Transfers.wp_waitBatchLastO EC 𝒱₀ (thr d L) none (dstw := ghi L obV) none (N := NO L) (NO_hi_B L) (NO_pos L) (D := DO m d L) (u := 0 + NO L + NO L + NO L) (by omega) (O := O)) $$ [B8 HO]
  · isplitl [B8]; · iexact B8
    isplitl [HO]; · iexact HO
    iapply ((K (F := F)).mayWait_none (SemLoc.dma cc0_scratch8.sem) hO); iexact Hlv
  iintro ⟨HD, Hs8, HO⟩
  ihave HD' := (Entails.of_eq (deal4 (F := F) (DO m d L))) $$ HD
  unfold DO
  icases HD' with ⟨⟨HoaL, H3L⟩, ⟨HobL, H4L⟩, ⟨HoaH, H3H⟩, ⟨HobH, H4H⟩⟩
  rw [wp_ret]; imodintro
  isplitl [HtL HtH Ha Hb HoaL HoaH HobL HobH]
  · isplitl [HtL HtH]
    · iapply (Entails.of_eq (pts_two (F := F) (ℓ := tLoc d) (blk_halves L) (blk_halves_disjoint L) fullShare (m (tLoc d))).symm)
      isplitl [HtL] <;> iassumption
    isplitl [Ha]; · iexact Ha
    isplitl [Hb]; · iexact Hb
    isplitl [HoaL HoaH]
    · iapply (Entails.of_eq (pts_two (F := F) (ℓ := oaLoc d) (blk_halves L) (blk_halves_disjoint L) fullShare (GA m d)).symm)
      isplitl [HoaL] <;> iassumption
    · iapply (Entails.of_eq (pts_two (F := F) (ℓ := obLoc d) (blk_halves L) (blk_halves_disjoint L) fullShare (GB m d)).symm)
      isplitl [HobL] <;> iassumption
  isplitl [H0L H0H H1 H2 H3L H3H H4L H4H Hbufs]
  · isplitl [H0L H0H]
    · iexists (fI m d L)
      iapply (Entails.of_eq (pts_two (F := F) (ℓ := (thr d L).loc cc0_scratch0) halves halves_disjoint fullShare (fI m d L)).symm)
      isplitl [H0L] <;> iassumption
    isplitl [H1]; · iexists _; iexact H1
    isplitl [H2]; · iexists _; iexact H2
    isplitl [H3L H3H]
    · iexists (gA m d L)
      iapply (Entails.of_eq (pts_two (F := F) (ℓ := (thr d L).loc cc0_scratch3) halves halves_disjoint fullShare (gA m d L)).symm)
      isplitl [H3L] <;> iassumption
    isplitl [H4L H4H]
    · iexists (gB m d L)
      iapply (Entails.of_eq (pts_two (F := F) (ℓ := (thr d L).loc cc0_scratch4) halves halves_disjoint fullShare (gB m d L)).symm)
      isplitl [H4L] <;> iassumption
    iexact Hbufs
  isplitl [Hs5 Hs6 Hs7 Hs8 Hsems]
  · isplitl [Hs5]; · iexact Hs5
    isplitl [Hs6]; · iexact Hs6
    isplitl [Hs7]; · iexact Hs7
    isplitl [Hs8]; · iexact Hs8
    iexact Hsems
  iexists (insert (SemLoc.dma cc0_scratch8.sem, none) (insert (SemLoc.dma cc0_scratch8.sem, none) (insert (SemLoc.dma cc0_scratch8.sem, none) (insert (SemLoc.dma cc0_scratch8.sem, none) (insert (SemLoc.dma cc0_scratch6.sem, none) (insert (SemLoc.dma cc0_scratch7.sem, none) (insert (SemLoc.dma cc0_scratch7.sem, none) (insert (SemLoc.dma cc0_scratch5.sem, none) W))))))))
  isplitr
  · ipureintro
    exact recorded_insert _ (recorded_insert _ (recorded_insert _ (recorded_insert _ (recorded_insert _ (recorded_insert _
      (recorded_insert _ (recorded_insert _ fun p hp => .inl hp)))))))
  iexact HO

end Cert.Proof.Gather

end

end
-- ==== Proof.Launch.lean ====
/-
  The launch: the one call deals each tile its words of the index array and of the two results and a share of each
  table, and collects them; and the program's run from any launch memory whose indices are below 1000.
-/
module

public import proofs.«01_k».proof.Proof.Body

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The call runs on sixteen tiles. -/
theorem nSub_zero : (K (F := F)).nSub 0 = 16 := rfl

/-- The launch theorem's side conditions on the program's signature. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The five arrays, the results at `fa` and `fb`. -/
abbrev whole (d : Dev nD) (fa : Buf (Elt F) (oaLoc d)) (fb : Buf (Elt F) (obLoc d)) : sProp 𝕄 :=
  iprop((tLoc d ↦{fullShare} m (tLoc d)) ∗ (aLoc d ↦{fullShare} m (aLoc d)) ∗ (bLoc d ↦{fullShare} m (bLoc d))
    ∗ (oaLoc d ↦{fullShare} fa) ∗ (obLoc d ↦{fullShare} fb))

/-- The one call takes the five arrays and brings them back, the results gathered; each tile its words and shares. -/
def P : (K (F := F)).Pay (nD := nD) (Val := Elt F) (Name := ℕ) (U := UU) where
  st := fun q d _ => match q with | 0 => whole m d (m (oaLoc d)) (m (obLoc d))
  dn := fun q d _ => match q with | 0 => whole m d (GA m d) (GB m d)
  go := fun q d _ i => match q with | 0 => goP m d (Fin.cast nSub_zero i) (m (oaLoc d)) (m (obLoc d))
  td := fun q d _ i => match q with | 0 => goP m d (Fin.cast nSub_zero i) (GA m d) (GB m d)
  x := fun _ _ => iprop(emp)

/-- What the call hands over and brings back may be kept in an invariant. -/
instance P_storable : (P (F := F) m).IsStorable where
  st q d _ := match q with
    | 0 => (inferInstance : BI.Storable (upEmb : UEmb _ 𝕄) (whole m d (m (oaLoc d)) (m (obLoc d))))
  dn q d _ := match q with
    | 0 => (inferInstance : BI.Storable (upEmb : UEmb _ 𝕄) (whole m d (GA m d) (GB m d)))
  go q d _ i := match q with
    | 0 => (inferInstance : BI.Storable (upEmb : UEmb _ 𝕄) (goP m d (Fin.cast nSub_zero i) (m (oaLoc d)) (m (obLoc d))))
  td q d _ i := match q with
    | 0 => (inferInstance : BI.Storable (upEmb : UEmb _ 𝕄) (goP m d (Fin.cast nSub_zero i) (GA m d) (GB m d)))

/-! ## The launch theorem's obligations -/

/-- The coordinates of the tile at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A vector subcore's program is the kernel's body at that tile's coordinates. -/
theorem defs₀_vector (c : Fin τ.nSC) (s : Fin τ.nSub) :
    defs₀ (F := F) (.scVector c s) 0 ()
      = SparseCore.onTile hcore0 hsub0 (fun c s => cc0__gather_sc (coordsV c s)
          tV (Memref.isWhole_whole _) bV (Memref.isWhole_whole _) aV (Memref.isWhole_whole _) oaV (Memref.isWhole_whole _)
          obV (Memref.isWhole_whole _) sI (Memref.isWhole_whole _) sB (Memref.isWhole_whole _) sA (Memref.isWhole_whole _)
          sOA (Memref.isWhole_whole _) sOB (Memref.isWhole_whole _) cc0_scratch5 cc0_scratch6 cc0_scratch7 cc0_scratch8) ⟨⟩ c s := rfl

/-- A tile records waits at no handshake's index, so none at another call's. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc0__gather_sc in
/-- The tile's body, its thread named by its core and subcore. -/
theorem tile_at (d : Dev nD) (c : Fin τ.nSC) (s : Fin τ.nSub) (hc : c.val < grid0.bound 0) (hs : s.val < grid0.bound 1)
    (hF : (K (F := F)).Facts) (hpre : PreOK m) (O : CellTallies nD τ sig (HIx 1)) (W : Waits sig (HIx 1)) (hO : ∀ g, O g none = 0) :
    (iprop(levAts (K (F := F)).L (K (F := F)).lev ∗ emp ∗ goP m d (jL (coordsV ⟨c.val, hc⟩ ⟨s.val, hs⟩)) (m (oaLoc d)) (m (obLoc d))
        ∗ scopedBufs (V d c s) ∗ scopedSems0 (V d c s) ∗ owes (V d c s) O W) : sProp 𝕄)
      ⊢ wp frame (wpE (defs₀ (F := F)) 𝒱₀ (V d c s) none) Set.univ (cc0__gather_sc (coordsV ⟨c.val, hc⟩ ⟨s.val, hs⟩)
          tV (Memref.isWhole_whole _) bV (Memref.isWhole_whole _) aV (Memref.isWhole_whole _) oaV (Memref.isWhole_whole _)
          obV (Memref.isWhole_whole _) sI (Memref.isWhole_whole _) sB (Memref.isWhole_whole _) sA (Memref.isWhole_whole _)
          sOA (Memref.isWhole_whole _) sOB (Memref.isWhole_whole _) cc0_scratch5 cc0_scratch6 cc0_scratch7 cc0_scratch8) fun _ =>
        iprop(goP m d (jL (coordsV ⟨c.val, hc⟩ ⟨s.val, hs⟩)) (GA m d) (GB m d) ∗ scopedBufs (V d c s) ∗ scopedSems0 (V d c s)
          ∗ ∃ W', ⌜∀ p ∈ W', p ∈ W ∨ p.2 = none⌝ ∗ owes (V d c s) O W') :=
  tile_body m d (coordsV ⟨c.val, hc⟩ ⟨s.val, hs⟩) hF hpre O W hO

attribute [local irreducible] cc0__gather_sc in
/-- Every tile's task meets its obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_at m d _ _ hc.1 hc.2 hF hpre O W hO).trans (wp_mono frame _ _ fun _ => obl_post)

/-! ## Dealing and collecting -/

/-- No word belongs to two tiles. -/
theorem blks_disjoint : ∀ i ∈ (Finset.univ : Finset (Fin 16)), ∀ j ∈ (Finset.univ : Finset (Fin 16)), i ≠ j → Disjoint (blk i) (blk j) :=
  fun i _ j _ h => Finset.disjoint_left.mpr fun x h1 h2 => h (Fin.ext (by rw [mem_blk] at h1 h2; omega))

/-- Every word belongs to a tile. -/
theorem blks_cover : (Finset.univ : Finset (Fin 16)).biUnion blk = Finset.univ := by
  ext x
  simp only [Finset.mem_biUnion, Finset.mem_univ, true_and, iff_true]
  have hx : (x 0).val < 16384 := (x 0).isLt
  exact ⟨⟨(x 0).val / 1024, by omega⟩, mem_blk.mpr (by constructor <;> dsimp only <;> omega)⟩

/-- An array of 16384 words is its sixteen parts. -/
theorem pts_blks {ℓ : Loc nD τ sig} (B : Fin 16 → Finset (Idx ℓ))
    (hd : ∀ i ∈ (Finset.univ : Finset (Fin 16)), ∀ j ∈ (Finset.univ : Finset (Fin 16)), i ≠ j → Disjoint (B i) (B j))
    (hc : (Finset.univ : Finset (Fin 16)).biUnion B = Finset.univ) (f : Buf (Elt F) ℓ) :
    (ℓ ↦{fullShare} f : sProp 𝕄) = bigSep Finset.univ fun i : Fin 16 => ℓ ↦[B i]{fullShare} f := by
  rw [← pointsTo_biUnion Finset.univ B hd, hc]

/-- A table is the shares the sixteen tiles read it at. -/
theorem pts_deal {ℓ : Loc nD τ sig} (f : Buf (Elt F) ℓ) :
    (ℓ ↦{fullShare} f : sProp 𝕄) = bigSep Finset.univ fun i : Fin 16 => ℓ ↦{qT i} f :=
  Transfers.pointsTo_deal Finset.univ ⟨0, Finset.mem_univ _⟩ fullShare

/-- The call's tasks are the sixteen tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The five arrays are what the sixteen tiles hold of them. -/
theorem whole_deal (d : Dev nD) (fa : Buf (Elt F) (oaLoc d)) (fb : Buf (Elt F) (obLoc d)) :
    whole m d fa fb = bigSep Finset.univ fun i : Fin 16 => goP m d i fa fb := by
  rw [bigSep_sep', bigSep_sep', bigSep_sep', bigSep_sep']
  unfold whole
  rw [pts_blks (ℓ := tLoc d) blk blks_disjoint blks_cover, pts_deal (ℓ := aLoc d), pts_deal (ℓ := bLoc d),
    pts_blks (ℓ := oaLoc d) blk blks_disjoint blks_cover, pts_blks (ℓ := obLoc d) blk blks_disjoint blks_cover]

/-- The call's arrays deal to the tiles and come back from them. -/
theorem vecSplit : (K (F := F)).VecSplit' (P m) 0 := by
  intro d c
  show whole m d (m (oaLoc d)) (m (obLoc d)) ⊢ |={Set.univ}=> iprop(
      (bigSep Finset.univ fun i : Fin ((K (F := F)).nSub 0) => goP m d (Fin.cast nSub_zero i) (m (oaLoc d)) (m (obLoc d)))
      ∗ ((bigSep Finset.univ fun i : Fin ((K (F := F)).nSub 0) => goP m d (Fin.cast nSub_zero i) (GA m d) (GB m d))
          -∗ whole m d (GA m d) (GB m d)))
  rw [bigSep_tasks (F := F) (fun i => goP m d i (m (oaLoc d)) (m (obLoc d))), bigSep_tasks (F := F) (fun i => goP m d i (GA m d) (GB m d)),
    ← whole_deal, ← whole_deal]
  iintro H; imodintro
  isplitl [H]; · iexact H
  iintro H; iexact H

/-! ## The launch element of the ghost state -/

/-- The ghost state at launch: the handshakes' cells, and no transfer yet. -/
def u₀ : UU := (initOf (K (F := F)).hsCells (K (F := F)).hsToks, 1)

/-- Nothing, any number of times, is nothing. -/
theorem bigSep_none {I : Type} (s : Finset I) : (bigSep s fun _ => iprop(emp)) = (iprop(emp) : sProp 𝕄) := bigSep_emp_const s

/-- The handshakes' launch element is all the launch owes: the tiles' transfers allocate their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The TensorCore's program -/

/-- The TensorCore's arrays at launch are the three arguments and the two results. -/
theorem unscopedBufs_eq (d : Dev nD) (W : (b : Ref sig .tc) → Buf (Elt F) ((d.tc : Thread nD τ).loc b)) :
    (unscopedBufs d W : sProp 𝕄) = iprop((tLoc d ↦{fullShare} W main_arg0) ∗ (bLoc d ↦{fullShare} W main_arg1) ∗ (aLoc d ↦{fullShare} W main_arg2)
      ∗ (oaLoc d ↦{fullShare} W main_v0_0) ∗ obLoc d ↦{fullShare} W main_v0_1) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide),
    SparseCore.bigSep_insert' (by decide), bigSep_singleton]

/-- The one core's part of what the call takes is the five arrays. -/
theorem st0_eq (d : Dev nD) : (bigSep Finset.univ fun c : Fin ((K (F := F)).nCore 0) => (P m).st 0 d c) = whole m d (m (oaLoc d)) (m (obLoc d)) :=
  bigSep_univ_of_subsingleton (0 : Fin 1)

/-- The one core's part of what the call brings back is the five arrays, the results gathered. -/
theorem dn0_eq (d : Dev nD) : (bigSep Finset.univ fun c : Fin ((K (F := F)).nCore 0) => (P m).dn 0 d c) = whole m d (GA m d) (GB m d) :=
  bigSep_univ_of_subsingleton (0 : Fin 1)

/-- What the program ends with on a device. -/
abbrev FIN (d : Dev nD) : sProp 𝕄 := whole m d (GA m d) (GB m d)

/-- The one call, from the five arrays to the five arrays with the results gathered. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hbs, ⟨Ht, Hb, Ha, Hoa, Hob⟩, Hts, -⟩, -⟩
  iapply ((K (F := F)).wp_run (D (F := F)) 𝒱 (EH := EH) (P := P m) κ d 0) $$ [Hst Ht Hb Ha Hoa Hob Hbs Hts]
  isplitr; · iexact Hctx
  isplitl [Hst]; · iexact Hst
  isplitl [Ht Hb Ha Hoa Hob]
  · rw [st0_eq]
    isplitl [Ht]; · iexact Ht
    isplitl [Ha]; · iexact Ha
    isplitl [Hb]; · iexact Hb
    isplitl [Hoa] <;> iassumption
  iintro ⟨Hst, Hdn⟩
  ihave Hdn' := (Entails.of_eq (dn0_eq m d)) $$ Hdn
  imodintro
  isplitl [Hst]; · iexact Hst
  isplitl [Hdn']; · iexact Hdn'
  isplitl [Hbs] <;> iassumption

/-- What a final state holds on device `d`: the arguments unchanged, the results gathered. -/
def fq (d : Dev nD) (s' : Phys nD τ sig (Elt F)) : Prop :=
  s'.mem.mem (tLoc d) = m (tLoc d) ∧ s'.mem.mem (aLoc d) = m (aLoc d) ∧ s'.mem.mem (bLoc d) = m (bLoc d)
    ∧ s'.mem.mem (oaLoc d) = GA m d ∧ s'.mem.mem (obLoc d) = GB m d

/-- Holding an array whole, the state's contents of it are its contents. -/
theorem agree {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

/-- Ending with the five arrays, the final state holds what `fq` says. -/
theorem hfin (d : Dev nD) (s' : Phys nD τ sig (Elt F)) : iprop(FIN m d ∗ SI s') ⊢ (⌜fq m d s'⌝ : sProp 𝕄) := by
  iintro ⟨⟨Ht, Ha, Hb, Hoa, Hob⟩, HSI⟩
  ihave H := (agree (F := F) (ℓ := tLoc d) _ s') $$ [HSI Ht]
  · isplitl [HSI] <;> iassumption
  icases H with ⟨%h1, HSI⟩
  ihave H := (agree (F := F) (ℓ := aLoc d) _ s') $$ [HSI Ha]
  · isplitl [HSI] <;> iassumption
  icases H with ⟨%h2, HSI⟩
  ihave H := (agree (F := F) (ℓ := bLoc d) _ s') $$ [HSI Hb]
  · isplitl [HSI] <;> iassumption
  icases H with ⟨%h3, HSI⟩
  ihave H := (agree (F := F) (ℓ := oaLoc d) _ s') $$ [HSI Hoa]
  · isplitl [HSI] <;> iassumption
  icases H with ⟨%h4, HSI⟩
  ihave H := (agree (F := F) (ℓ := obLoc d) _ s') $$ [HSI Hob]
  · isplitl [HSI] <;> iassumption
  icases H with ⟨%h5, HSI⟩
  ipureintro; exact ⟨h1, h2, h3, h4, h5⟩

/-! ## The run -/

/-- The run's result: every semaphore at zero, the arguments unchanged, the results gathered. -/
def QC : PUnit × MemSt nD τ sig (Elt F) → Prop := fun r =>
  (∀ c : Dev nD, r.2.mem (tLoc c) = m (tLoc c) ∧ r.2.mem (aLoc c) = m (aLoc c) ∧ r.2.mem (bLoc c) = m (bLoc c)
    ∧ r.2.mem (oaLoc c) = GA m c ∧ r.2.mem (obLoc c) = GB m c) ∧ r.2.sem = fun _ => 0

/-- Every run of the program from a launch memory whose indices are below 1000 ends at `QC`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end

end
-- ==== Proof.Frames.lean ====
/-
  The kernel's two frames, and what the precondition says of the index array: every index is below 1000.
-/
module

public import proofs.«01_k».proof.Proof.Launch
public import proofs.«01_k».proof.Defs
public import proofs.«01_k».proof.Proof.Gen.Kernel
public import proofs.«01_k».proof.Proof.Gen.Pre_in_table
public import Idealize.ShloMosaic.Lib.ReduceAll

@[expose] public section

noncomputable section

namespace Cert.Proof.Gather

open Idealize.ShloMosaic Idealize.SL.Sem

/-- An index that compares at least 0 and below 1000, both signed, is a number below 1000. -/
theorem below_of_compares (v : BitVec 32) (h : IntOp.andi (IntOp.cmpi .sge v 0#32) (IntOp.cmpi .slt v 1000#32) = 1#1) : v.toNat < 1000 := by
  obtain ⟨h0, h1⟩ := IntOp.andi_eq_one.1 h
  rw [IntOp.cmpi_sge] at h0
  rw [IntOp.cmpi_slt] at h1
  have e0 : (0#32 : BitVec 32).toInt = 0 := by decide
  have e1 : (1000#32 : BitVec 32).toInt = 1000 := by decide
  rw [e0] at h0; rw [e1] at h1
  rw [BitVec.toInt_eq_toNat_cond] at h0 h1
  have := v.isLt
  split at h0 <;> split at h1 <;> omega

/-- The precondition's one bit is 1 only when every index is below 1000. -/
theorem below_of_pre {F : FTy → Type} [FloatOps F] (t : IVec Cert.Pre_in_table.S16384 32) (b a : FVec F Cert.Pre_in_table.S1000 .f32)
    (h : Cert.Pre_in_table.fn t b a = fun _ => 1#1) (j : Cert.Pre_in_table.S16384.Idx) : (t j).toNat < 1000 := by
  have e := congrFun h (fun a => a.elim0)
  unfold Cert.Pre_in_table.fn at e
  have : Subsingleton Cert.Pre_in_table.S_.Idx := ⟨fun x y => funext fun a => a.elim0⟩
  exact below_of_compares _ (Host.reduce_andi_all _ _ _ _ _ e j)

/-- The idealized kernel runs, its arguments end unchanged and its semaphores at zero. -/
theorem frame_ideal : Cert.quiescent_KernelIdeal := fun m ρ hpre =>
  (θ_run Cert.KernelIdeal.defs _ _).mono (fun _ h => ⟨fun c => ⟨(h.1 c).1, (h.1 c).2.2.1, (h.1 c).2.1⟩, h.2⟩)
    (run_main (F := Ideal) m ρ fun d j => below_of_pre _ _ _ (hpre d) j)

set_option maxRecDepth 65536 in
set_option maxHeartbeats 4000000 in
/-- The kernel as printed is the idealized program's text: it runs, its arguments end unchanged and its semaphores at zero. -/
theorem frame_printed : Cert.quiescent_Kernel := fun m ρ hpre =>
  (θ_run Cert.KernelIdeal.defs _ _).mono (fun _ h => ⟨fun c => ⟨(h.1 c).1, (h.1 c).2.2.1, (h.1 c).2.1⟩, h.2⟩)
    (run_main (F := Bits) m ρ fun d j => below_of_pre _ _ _ (hpre d) j)

end Cert.Proof.Gather

end

end
-- ==== Proof.Taken.lean ====
/-
  The reference's `take`, read at an index: where the index is below 1000 it is the table's entry there.
-/
module

public import proofs.«01_k».proof.Proof.Row
public import proofs.«01_k».proof.Proof.Gen.ReferenceIdeal
public import Idealize.ShloMosaic.Lib.ReduceAll
public import Idealize.ShloMosaic.Lib.ValueIdx

@[expose] public section

noncomputable section

namespace Cert.Proof.Taken

open Cert.ReferenceIdeal Cert.ReferenceIdeal.Gen Idealize.ShloMosaic

variable {F : FTy → Type} [FloatOps F]

/-- The start indices `take` gathers at: a negative index counted from the table's end, as a column. -/
def starts (t : IVec S16384 32) : IVec S16384x1 32 :=
  broadcastInDim S16384x1 ![0] bcast_S16384_S16384x1_0
    (select (cmpi .slt t (broadcastInDim S16384 ![] bcast_S_S16384 (constantI S_ 32 0#32)))
      (addi t (broadcastInDim S16384 ![] bcast_S_S16384 (constantI S_ 32 1000#32))) t)

/-- Which indices fall in the table. -/
def inside (t : IVec S16384 32) : IVec S16384 1 :=
  Host.reduce IntOp.andi
    (andi (cmpi .sge (starts t) (broadcastInDim S16384x1 ![] bcast_S_S16384x1 (constantI S_ 32 0#32)))
      (cmpi .sle (starts t) (broadcastInDim S16384x1 ![0, 1] bcast_S1x1_S16384x1_0_1
        (broadcastInDim S1x1 ![1] bcast_S1_S1x1_1 (constantI S1 32 999#32)))))
    (constantI S_ 1 1#1) reducesTo_S16384x1_S16384_d1 h_S_

/-- `jnp.take` as the reference computes it: the gathered entries, a NaN where the index is outside the table. -/
def taken (x : FVec F S1000 .f32) (t : IVec S16384 32) : FVec F S16384 .f32 :=
  select (inside t) (Host.gather gather_S1000_S16384x1_S16384_n_0_n_n_0_1_1 x (starts t))
    (broadcastInDim S16384 ![] bcast_S_S16384 (constant S_ .f32 0x7FC00000#32))

/-- A number below 1000, as a signed word. -/
theorem toInt_below {v : BitVec 32} (h : v.toNat < 1000) : v.toInt = v.toNat := by
  rw [BitVec.toInt_eq_toNat_cond, if_pos (by omega)]

/-- A word below 1000 is not negative, so it is kept as it is. -/
theorem kept (v : BitVec 32) (h : v.toNat < 1000) : Scalar.select (IntOp.cmpi .slt v 0#32) (IntOp.addi v 1000#32) v = v := by
  have e : IntOp.cmpi .slt v 0#32 = 0#1 := ValueIdx.eq_zero_of_ne_one fun e => by
    rw [IntOp.cmpi_slt, toInt_below h, show (0#32 : BitVec 32).toInt = 0 by decide] at e; omega
  rw [e, ValueIdx.select_zero]

/-- The index in the one-axis array that a place of the column stands for. -/
def unrow (i : S16384x1.Idx) : S16384.Idx := fun a => match a with | ⟨0, _⟩ => ⟨(i 0).val, (i 0).isLt⟩

/-- Where every index is below 1000, the start indices are the indices. -/
theorem starts_apply (t : IVec S16384 32) (h : ∀ j, (t j).toNat < 1000) (i : S16384x1.Idx) : starts t i = t (unrow i) := by
  have e : starts t i = Scalar.select (IntOp.cmpi .slt (t (unrow i)) 0#32) (IntOp.addi (t (unrow i)) 1000#32) (t (unrow i)) := by
    unfold starts broadcastInDim
    have hu : (fun a => if h1 : S16384.size a = 1 then ⟨0, by omega⟩ else ⟨(i (![0] a)).val, by
        obtain rfl : a = 0 := Subsingleton.elim _ _
        exact (i 0).isLt⟩ : S16384.Idx) = unrow i := by
      funext a; obtain rfl : a = 0 := Subsingleton.elim _ _
      rfl
    rw [hu]; rfl
  rw [e, kept _ (h _)]

/-- Where every index is below 1000, every index is inside. -/
theorem inside_apply (t : IVec S16384 32) (h : ∀ j, (t j).toNat < 1000) (j : S16384.Idx) : inside t j = 1#1 := by
  refine Host.reduce_andi_one _ _ _ _ _ rfl fun i => ?_
  show IntOp.andi (IntOp.cmpi .sge (starts t i) 0#32) (IntOp.cmpi .sle (starts t i) 999#32) = 1#1
  have := h (unrow i)
  rw [starts_apply t h i, IntOp.andi_eq_one, IntOp.cmpi_sge, IntOp.cmpi_sle, toInt_below this, show (0#32 : BitVec 32).toInt = 0 by decide,
    show (999#32 : BitVec 32).toInt = 999 by decide]
  omega

/-- The column place a result index gathers at. -/
def col (j : S16384.Idx) : S16384x1.Idx := fun a => match a with | ⟨0, _⟩ => ⟨(j 0).val, (j 0).isLt⟩ | ⟨1, _⟩ => ⟨0, Nat.one_pos⟩

/-- A result index's column place stands for it. -/
theorem unrow_col (j : S16384.Idx) : unrow (col j) = j := by
  funext a; obtain rfl : a = 0 := Subsingleton.elim _ _
  rfl

/-- The gather, read at a result index: the table's entry at the start index, kept within the table. -/
theorem gather_apply (x : FVec F S1000 .f32) (u : IVec S16384x1 32) (j : S16384.Idx) :
    Host.gather gather_S1000_S16384x1_S16384_n_0_n_n_0_1_1 x u j
      = x fun a => match a with | ⟨0, _⟩ => ⟨min (u (col j)).toInt.toNat 999, by show _ < 1000; omega⟩ := by
  unfold Host.gather
  congr 1
  funext a
  obtain rfl : a = 0 := Subsingleton.elim _ _
  refine Fin.ext ?_
  let D := gather_S1000_S16384x1_S16384_n_0_n_n_0_1_1
  show D.start j u 0 + D.batchCoord j 0 + D.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ D.startIndexMap from List.mem_singleton.mpr rfl)]
  have hs : D.siIdx j ⟨List.idxOf (0 : Fin 1) D.startIndexMap, List.idxOf_lt_length_iff.2 (List.mem_singleton.mpr rfl)⟩ = col j := by
    funext b; refine Fin.ext ?_
    match b with
    | ⟨0, _⟩ => rfl
    | ⟨1, _⟩ => rfl
  rw [hs]
  rfl

/-- Where every index is below 1000, `take` reads the table at each index. -/
theorem taken_apply (x : FVec F S1000 .f32) (t : IVec S16384 32) (h : ∀ j, (t j).toNat < 1000) :
    taken x t = fun j => Gather.at' x (t j) := by
  funext j
  have e : taken x t j = Scalar.select (inside t j) (Host.gather gather_S1000_S16384x1_S16384_n_0_n_n_0_1_1 x (starts t) j)
      (broadcastInDim S16384 ![] bcast_S_S16384 (constant S_ .f32 0x7FC00000#32) j) := rfl
  rw [e, inside_apply t h, ValueIdx.select_one, gather_apply]
  unfold Gather.at'
  refine congrArg x (funext fun a => ?_)
  obtain rfl : a = 0 := Subsingleton.elim _ _
  refine Fin.ext ?_
  have := h j
  show min (starts t (col j)).toInt.toNat 999 = (t j).toNat % 1000
  rw [starts_apply t h, unrow_col, toInt_below this]
  omega

end Cert.Proof.Taken

end

end
-- ==== Proof.Algebra.lean ====
/-
  The reference's frames, and the equality: kernel and reference both end with the tables' entries at the indices.
-/
module

public import proofs.«01_k».proof.Proof.Frames
public import proofs.«01_k».proof.Proof.Taken
public import proofs.«01_k».proof.Proof.Gen.ReferenceIdeal.Run

@[expose] public section

noncomputable section

namespace Cert.Proof.Gather

open Idealize.ShloMosaic Idealize.SL.Sem

/-- The reference has no semaphores, so its run is its frame. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same, where the precondition is asked. -/
theorem frame_reference_pre : Cert.quiescent_ReferenceIdeal_pre_in_table := fun m ρ _ => frame_reference m ρ trivial

/-- From memories agreeing on the arguments, kernel and reference end with the same results. -/
theorem algebraic : Cert.algebraic_KernelIdeal_ReferenceIdeal := by
  intro m ρ m' ρ' hpre hagree
  have hok : PreOK (F := Ideal) m := fun d j => below_of_pre _ _ _ (hpre d) j
  refine ⟨fun c => GA m c, fun c => GB m c, ?_, ?_⟩
  · exact (θ_run Cert.KernelIdeal.defs _ _).mono
      (fun _ h c => ⟨(h.1 c).2.2.2.1, (h.1 c).2.2.2.2, (h.1 c).1, (h.1 c).2.2.1, (h.1 c).2.1⟩) (run_main (F := Ideal) m ρ hok)
  · refine (θ_run Cert.ReferenceIdeal.defs _ _).mono (fun _ h c => ?_) (Cert.ReferenceIdeal.Value.run (F := Ideal) m' ρ')
    obtain ⟨h0, h1, hargs⟩ := h c
    obtain ⟨a0, a1, a2⟩ := hagree c
    refine ⟨h0.trans ?_, h1.trans ?_, hargs⟩
    · rw [a0, a2]
      exact Taken.taken_apply (F := Ideal) (m (aLoc c)) (m (tLoc c)) (hok c)
    · rw [a0, a1]
      exact Taken.taken_apply (F := Ideal) (m (bLoc c)) (m (tLoc c)) (hok c)

end Cert.Proof.Gather

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_table
public import proofs.«01_k».proof.Proof.Algebra

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_in_table.Gen.facts,
    Gather.frame_printed, Gather.frame_ideal, Gather.frame_reference, Gather.frame_reference_pre, trivial, Gather.algebraic⟩

end Cert.Proof

end
